-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S496x768 : Shape := ⟨2, ![496, 768]⟩
abbrev S5 : Shape := ⟨1, ![5]⟩
abbrev S512x512 : Shape := ⟨2, ![512, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S_ : Shape := ⟨0, ![]⟩
abbrev S1 : Shape := ⟨1, ![1]⟩
abbrev S256x768 : Shape := ⟨2, ![256, 768]⟩
abbrev S128x768 : Shape := ⟨2, ![128, 768]⟩
abbrev S64x768 : Shape := ⟨2, ![64, 768]⟩
abbrev S32x768 : Shape := ⟨2, ![32, 768]⟩
abbrev S16x768 : Shape := ⟨2, ![16, 768]⟩

abbrev nBuf : Space → Nat
  | .hbm => 6
  | .vmem => 8
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S768x512, .f32⟩
  | .local _ .vmem, ⟨4, _⟩ => ⟨S768x512, .f32⟩
  | .local _ .vmem, ⟨5, _⟩ => ⟨S2x256x768, .f32⟩
  | .local _ .vmem, ⟨6, _⟩ => ⟨S512x768, .f32⟩
  | .local _ .vmem, ⟨7, _⟩ => ⟨S496x768, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_95 : BitVec 32 := 1#32
  let v281 : BitVec 32 := Scalar.xori v2 c1_i32_95
  let c1_i32_97 : BitVec 32 := 1#32
  let v282 : BitVec 32 := Scalar.muli v281 c1_i32_97
  let v283 : BitVec 32 := Scalar.addi c0_i32 v282
  v283.toNat
def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v284 : BitVec 32 := Scalar.xori v2 c2_i32
  let c1_i32_99 : BitVec 32 := 1#32
  let v285 : BitVec 32 := Scalar.muli v284 c1_i32_99
  let v286 : BitVec 32 := Scalar.addi c0_i32_100 v285
  v286.toNat
def k0_dev3 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v287 : BitVec 32 := Scalar.xori v2 c4_i32
  let c1_i32_102 : BitVec 32 := 1#32
  let v288 : BitVec 32 := Scalar.muli v287 c1_i32_102
  let v289 : BitVec 32 := Scalar.addi c0_i32_103 v288
  v289.toNat
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v290 : BitVec 32 := Scalar.xori v2 c8_i32
  let c1_i32_105 : BitVec 32 := 1#32
  let v291 : BitVec 32 := Scalar.muli v290 c1_i32_105
  let v292 : BitVec 32 := Scalar.addi c0_i32_106 v291
  v292.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v293 : BitVec 32 := Scalar.xori v2 c16_i32
  let c1_i32_108 : BitVec 32 := 1#32
  let v294 : BitVec 32 := Scalar.muli v293 c1_i32_108
  let v295 : BitVec 32 := Scalar.addi c0_i32_109 v294
  v295.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c1_i32_114 : BitVec 32 := 1#32
  let c0_i32_111 : BitVec 32 := 0#32
  let v297 : BitVec 32 := Scalar.shrsi v2 c0_i32_111
  let c1_i32_112 : BitVec 32 := 1#32
  let v298 : BitVec 32 := Scalar.andi v297 c1_i32_112
  let v300 : BitVec 32 := Scalar.subi c1_i32_114 v298
  let c256_i32 : BitVec 32 := 256#32
  let v301 : BitVec 32 := Scalar.muli v300 c256_i32
  let v302 : BitVec 32 := Scalar.addi v296 v301
  v302
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c1_i32_114 : BitVec 32 := 1#32
  let c0_i32_111 : BitVec 32 := 0#32
  let v297 : BitVec 32 := Scalar.shrsi v2 c0_i32_111
  let c1_i32_112 : BitVec 32 := 1#32
  let v298 : BitVec 32 := Scalar.andi v297 c1_i32_112
  let v300 : BitVec 32 := Scalar.subi c1_i32_114 v298
  let c256_i32 : BitVec 32 := 256#32
  let v301 : BitVec 32 := Scalar.muli v300 c256_i32
  let v302 : BitVec 32 := Scalar.addi v296 v301
  let v305 : BitVec 32 := v302
  let c0_i32_122 : BitVec 32 := 0#32
  ![v305.toNat, 0]
def k0_dev6 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_113 : BitVec 32 := 1#32
  let v299 : BitVec 32 := Scalar.xori v2 c1_i32_113
  let c1_i32_118 : BitVec 32 := 1#32
  let v306 : BitVec 32 := Scalar.muli v299 c1_i32_118
  let v307 : BitVec 32 := Scalar.addi c0_i32_119 v306
  v307.toNat
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  v304
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let v324 : BitVec 32 := v304
  let v325 : Index := Scalar.indexCast v324
  let c0_136 : Index := 0#32
  ![v325.toNat, 0]
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  v304
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_143 : BitVec 32 := 1#32
  let c1_i32_140 : BitVec 32 := 1#32
  let v334 : BitVec 32 := Scalar.shrsi v2 c1_i32_140
  let c1_i32_141 : BitVec 32 := 1#32
  let v335 : BitVec 32 := Scalar.andi v334 c1_i32_141
  let v337 : BitVec 32 := Scalar.subi c1_i32_143 v335
  let c128_i32 : BitVec 32 := 128#32
  let v338 : BitVec 32 := Scalar.muli v337 c128_i32
  let v339 : BitVec 32 := Scalar.addi v304 v338
  v339
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_143 : BitVec 32 := 1#32
  let c1_i32_140 : BitVec 32 := 1#32
  let v334 : BitVec 32 := Scalar.shrsi v2 c1_i32_140
  let c1_i32_141 : BitVec 32 := 1#32
  let v335 : BitVec 32 := Scalar.andi v334 c1_i32_141
  let v337 : BitVec 32 := Scalar.subi c1_i32_143 v335
  let c128_i32 : BitVec 32 := 128#32
  let v338 : BitVec 32 := Scalar.muli v337 c128_i32
  let v339 : BitVec 32 := Scalar.addi v304 v338
  let v342 : BitVec 32 := v339
  let c0_i32_151 : BitVec 32 := 0#32
  ![v342.toNat, 0]
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_142 : BitVec 32 := 2#32
  let v336 : BitVec 32 := Scalar.xori v2 c2_i32_142
  let c1_i32_147 : BitVec 32 := 1#32
  let v343 : BitVec 32 := Scalar.muli v336 c1_i32_147
  let v344 : BitVec 32 := Scalar.addi c0_i32_148 v343
  v344.toNat
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  v341
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let v361 : BitVec 32 := v341
  let v362 : Index := Scalar.indexCast v361
  let c0_165 : Index := 0#32
  ![v362.toNat, 0]
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  v341
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c1_i32_171 : BitVec 32 := 1#32
  let c2_i32_168 : BitVec 32 := 2#32
  let v371 : BitVec 32 := Scalar.shrsi v2 c2_i32_168
  let c1_i32_169 : BitVec 32 := 1#32
  let v372 : BitVec 32 := Scalar.andi v371 c1_i32_169
  let v374 : BitVec 32 := Scalar.subi c1_i32_171 v372
  let c64_i32 : BitVec 32 := 64#32
  let v375 : BitVec 32 := Scalar.muli v374 c64_i32
  let v376 : BitVec 32 := Scalar.addi v341 v375
  v376
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c1_i32_171 : BitVec 32 := 1#32
  let c2_i32_168 : BitVec 32 := 2#32
  let v371 : BitVec 32 := Scalar.shrsi v2 c2_i32_168
  let c1_i32_169 : BitVec 32 := 1#32
  let v372 : BitVec 32 := Scalar.andi v371 c1_i32_169
  let v374 : BitVec 32 := Scalar.subi c1_i32_171 v372
  let c64_i32 : BitVec 32 := 64#32
  let v375 : BitVec 32 := Scalar.muli v374 c64_i32
  let v376 : BitVec 32 := Scalar.addi v341 v375
  let v379 : BitVec 32 := v376
  let c0_i32_178 : BitVec 32 := 0#32
  ![v379.toNat, 0]
def k0_dev8 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_170 : BitVec 32 := 4#32
  let v373 : BitVec 32 := Scalar.xori v2 c4_i32_170
  let c1_i32_175 : BitVec 32 := 1#32
  let v380 : BitVec 32 := Scalar.muli v373 c1_i32_175
  let v381 : BitVec 32 := Scalar.addi c0_i32_176 v380
  v381.toNat
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  v378
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let v398 : BitVec 32 := v378
  let v399 : Index := Scalar.indexCast v398
  let c0_192 : Index := 0#32
  ![v399.toNat, 0]
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  v378
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c1_i32_197 : BitVec 32 := 1#32
  let c3_i32 : BitVec 32 := 3#32
  let v408 : BitVec 32 := Scalar.shrsi v2 c3_i32
  let c1_i32_195 : BitVec 32 := 1#32
  let v409 : BitVec 32 := Scalar.andi v408 c1_i32_195
  let v411 : BitVec 32 := Scalar.subi c1_i32_197 v409
  let c32_i32_198 : BitVec 32 := 32#32
  let v412 : BitVec 32 := Scalar.muli v411 c32_i32_198
  let v413 : BitVec 32 := Scalar.addi v378 v412
  v413
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c1_i32_197 : BitVec 32 := 1#32
  let c3_i32 : BitVec 32 := 3#32
  let v408 : BitVec 32 := Scalar.shrsi v2 c3_i32
  let c1_i32_195 : BitVec 32 := 1#32
  let v409 : BitVec 32 := Scalar.andi v408 c1_i32_195
  let v411 : BitVec 32 := Scalar.subi c1_i32_197 v409
  let c32_i32_198 : BitVec 32 := 32#32
  let v412 : BitVec 32 := Scalar.muli v411 c32_i32_198
  let v413 : BitVec 32 := Scalar.addi v378 v412
  let v416 : BitVec 32 := v413
  let c0_i32_205 : BitVec 32 := 0#32
  ![v416.toNat, 0]
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_196 : BitVec 32 := 8#32
  let v410 : BitVec 32 := Scalar.xori v2 c8_i32_196
  let c1_i32_202 : BitVec 32 := 1#32
  let v417 : BitVec 32 := Scalar.muli v410 c1_i32_202
  let v418 : BitVec 32 := Scalar.addi c0_i32_203 v417
  v418.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  v415
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let v435 : BitVec 32 := v415
  let v436 : Index := Scalar.indexCast v435
  let c0_219 : Index := 0#32
  ![v436.toNat, 0]
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  v415
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c1_i32_225 : BitVec 32 := 1#32
  let c4_i32_222 : BitVec 32 := 4#32
  let v445 : BitVec 32 := Scalar.shrsi v2 c4_i32_222
  let c1_i32_223 : BitVec 32 := 1#32
  let v446 : BitVec 32 := Scalar.andi v445 c1_i32_223
  let v448 : BitVec 32 := Scalar.subi c1_i32_225 v446
  let c16_i32_226 : BitVec 32 := 16#32
  let v449 : BitVec 32 := Scalar.muli v448 c16_i32_226
  let v450 : BitVec 32 := Scalar.addi v415 v449
  v450
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c1_i32_225 : BitVec 32 := 1#32
  let c4_i32_222 : BitVec 32 := 4#32
  let v445 : BitVec 32 := Scalar.shrsi v2 c4_i32_222
  let c1_i32_223 : BitVec 32 := 1#32
  let v446 : BitVec 32 := Scalar.andi v445 c1_i32_223
  let v448 : BitVec 32 := Scalar.subi c1_i32_225 v446
  let c16_i32_226 : BitVec 32 := 16#32
  let v449 : BitVec 32 := Scalar.muli v448 c16_i32_226
  let v450 : BitVec 32 := Scalar.addi v415 v449
  let v453 : BitVec 32 := v450
  let c0_i32_233 : BitVec 32 := 0#32
  ![v453.toNat, 0]
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_224 : BitVec 32 := 16#32
  let v447 : BitVec 32 := Scalar.xori v2 c16_i32_224
  let c1_i32_230 : BitVec 32 := 1#32
  let v454 : BitVec 32 := Scalar.muli v447 c1_i32_230
  let v455 : BitVec 32 := Scalar.addi c0_i32_231 v454
  v455.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  v452
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let v472 : BitVec 32 := v452
  let v473 : Index := Scalar.indexCast v472
  let c0_247 : Index := 0#32
  ![v473.toNat, 0]
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  v452
def k0_mult16 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  v452
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  v452
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let v490 : BitVec 32 := v452
  let c0_i32_260 : BitVec 32 := 0#32
  ![v490.toNat, 0]
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_252 : BitVec 32 := 16#32
  let v484 : BitVec 32 := Scalar.xori v2 c16_i32_252
  let c1_i32_258 : BitVec 32 := 1#32
  let v491 : BitVec 32 := Scalar.muli v484 c1_i32_258
  let v492 : BitVec 32 := Scalar.addi c0_i32_259 v491
  v492.toNat
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  v509
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  v509
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let v518 : BitVec 32 := v509
  let c0_i32_283 : BitVec 32 := 0#32
  ![v518.toNat, 0]
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_275 : BitVec 32 := 8#32
  let v512 : BitVec 32 := Scalar.xori v2 c8_i32_275
  let c1_i32_281 : BitVec 32 := 1#32
  let v519 : BitVec 32 := Scalar.muli v512 c1_i32_281
  let v520 : BitVec 32 := Scalar.addi c0_i32_282 v519
  v520.toNat
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  v537
def k0_mult21 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  v537
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let v546 : BitVec 32 := v537
  let c0_i32_306 : BitVec 32 := 0#32
  ![v546.toNat, 0]
def k0_dev13 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_298 : BitVec 32 := 4#32
  let v540 : BitVec 32 := Scalar.xori v2 c4_i32_298
  let c1_i32_304 : BitVec 32 := 1#32
  let v547 : BitVec 32 := Scalar.muli v540 c1_i32_304
  let v548 : BitVec 32 := Scalar.addi c0_i32_305 v547
  v548.toNat
def k0_mult22 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  v565
def k0_mult23 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  v565
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  let v574 : BitVec 32 := v565
  let c0_i32_329 : BitVec 32 := 0#32
  ![v574.toNat, 0]
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_321 : BitVec 32 := 2#32
  let v568 : BitVec 32 := Scalar.xori v2 c2_i32_321
  let c1_i32_327 : BitVec 32 := 1#32
  let v575 : BitVec 32 := Scalar.muli v568 c1_i32_327
  let v576 : BitVec 32 := Scalar.addi c0_i32_328 v575
  v576.toNat
def k0_mult24 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  let c1_i32_323 : BitVec 32 := 1#32
  let c2_i32_322 : BitVec 32 := 2#32
  let c1_i32_319 : BitVec 32 := 1#32
  let v566 : BitVec 32 := Scalar.shrsi v2 c1_i32_319
  let c1_i32_320 : BitVec 32 := 1#32
  let v567 : BitVec 32 := Scalar.andi v566 c1_i32_320
  let v569 : BitVec 32 := Scalar.muli c2_i32_322 v567
  let v570 : BitVec 32 := Scalar.subi c1_i32_323 v569
  let c128_i32_324 : BitVec 32 := 128#32
  let v571 : BitVec 32 := Scalar.muli v570 c128_i32_324
  let v572 : BitVec 32 := Scalar.addi v565 v571
  let v593 : BitVec 32 := Scalar.minsi v565 v572
  v593
def k0_mult25 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  let c1_i32_323 : BitVec 32 := 1#32
  let c2_i32_322 : BitVec 32 := 2#32
  let c1_i32_319 : BitVec 32 := 1#32
  let v566 : BitVec 32 := Scalar.shrsi v2 c1_i32_319
  let c1_i32_320 : BitVec 32 := 1#32
  let v567 : BitVec 32 := Scalar.andi v566 c1_i32_320
  let v569 : BitVec 32 := Scalar.muli c2_i32_322 v567
  let v570 : BitVec 32 := Scalar.subi c1_i32_323 v569
  let c128_i32_324 : BitVec 32 := 128#32
  let v571 : BitVec 32 := Scalar.muli v570 c128_i32_324
  let v572 : BitVec 32 := Scalar.addi v565 v571
  let v593 : BitVec 32 := Scalar.minsi v565 v572
  v593
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let v296 : BitVec 32 := Scalar.muli v2 c0_i32_110
  let c0_i32_111 : BitVec 32 := 0#32
  let v297 : BitVec 32 := Scalar.shrsi v2 c0_i32_111
  let c1_i32_112 : BitVec 32 := 1#32
  let v298 : BitVec 32 := Scalar.andi v297 c1_i32_112
  let c256_i32_115 : BitVec 32 := 256#32
  let v303 : BitVec 32 := Scalar.muli v298 c256_i32_115
  let v304 : BitVec 32 := Scalar.addi v296 v303
  let c1_i32_140 : BitVec 32 := 1#32
  let v334 : BitVec 32 := Scalar.shrsi v2 c1_i32_140
  let c1_i32_141 : BitVec 32 := 1#32
  let v335 : BitVec 32 := Scalar.andi v334 c1_i32_141
  let c128_i32_144 : BitVec 32 := 128#32
  let v340 : BitVec 32 := Scalar.muli v335 c128_i32_144
  let v341 : BitVec 32 := Scalar.addi v304 v340
  let c2_i32_168 : BitVec 32 := 2#32
  let v371 : BitVec 32 := Scalar.shrsi v2 c2_i32_168
  let c1_i32_169 : BitVec 32 := 1#32
  let v372 : BitVec 32 := Scalar.andi v371 c1_i32_169
  let c64_i32_172 : BitVec 32 := 64#32
  let v377 : BitVec 32 := Scalar.muli v372 c64_i32_172
  let v378 : BitVec 32 := Scalar.addi v341 v377
  let c3_i32 : BitVec 32 := 3#32
  let v408 : BitVec 32 := Scalar.shrsi v2 c3_i32
  let c1_i32_195 : BitVec 32 := 1#32
  let v409 : BitVec 32 := Scalar.andi v408 c1_i32_195
  let c32_i32_199 : BitVec 32 := 32#32
  let v414 : BitVec 32 := Scalar.muli v409 c32_i32_199
  let v415 : BitVec 32 := Scalar.addi v378 v414
  let c4_i32_222 : BitVec 32 := 4#32
  let v445 : BitVec 32 := Scalar.shrsi v2 c4_i32_222
  let c1_i32_223 : BitVec 32 := 1#32
  let v446 : BitVec 32 := Scalar.andi v445 c1_i32_223
  let c16_i32_227 : BitVec 32 := 16#32
  let v451 : BitVec 32 := Scalar.muli v446 c16_i32_227
  let v452 : BitVec 32 := Scalar.addi v415 v451
  let c1_i32_254 : BitVec 32 := 1#32
  let c2_i32_253 : BitVec 32 := 2#32
  let c4_i32_250 : BitVec 32 := 4#32
  let v482 : BitVec 32 := Scalar.shrsi v2 c4_i32_250
  let c1_i32_251 : BitVec 32 := 1#32
  let v483 : BitVec 32 := Scalar.andi v482 c1_i32_251
  let v485 : BitVec 32 := Scalar.muli c2_i32_253 v483
  let v486 : BitVec 32 := Scalar.subi c1_i32_254 v485
  let c16_i32_255 : BitVec 32 := 16#32
  let v487 : BitVec 32 := Scalar.muli v486 c16_i32_255
  let v488 : BitVec 32 := Scalar.addi v452 v487
  let v509 : BitVec 32 := Scalar.minsi v452 v488
  let c1_i32_277 : BitVec 32 := 1#32
  let c2_i32_276 : BitVec 32 := 2#32
  let c3_i32_273 : BitVec 32 := 3#32
  let v510 : BitVec 32 := Scalar.shrsi v2 c3_i32_273
  let c1_i32_274 : BitVec 32 := 1#32
  let v511 : BitVec 32 := Scalar.andi v510 c1_i32_274
  let v513 : BitVec 32 := Scalar.muli c2_i32_276 v511
  let v514 : BitVec 32 := Scalar.subi c1_i32_277 v513
  let c32_i32_278 : BitVec 32 := 32#32
  let v515 : BitVec 32 := Scalar.muli v514 c32_i32_278
  let v516 : BitVec 32 := Scalar.addi v509 v515
  let v537 : BitVec 32 := Scalar.minsi v509 v516
  let c1_i32_300 : BitVec 32 := 1#32
  let c2_i32_299 : BitVec 32 := 2#32
  let c2_i32_296 : BitVec 32 := 2#32
  let v538 : BitVec 32 := Scalar.shrsi v2 c2_i32_296
  let c1_i32_297 : BitVec 32 := 1#32
  let v539 : BitVec 32 := Scalar.andi v538 c1_i32_297
  let v541 : BitVec 32 := Scalar.muli c2_i32_299 v539
  let v542 : BitVec 32 := Scalar.subi c1_i32_300 v541
  let c64_i32_301 : BitVec 32 := 64#32
  let v543 : BitVec 32 := Scalar.muli v542 c64_i32_301
  let v544 : BitVec 32 := Scalar.addi v537 v543
  let v565 : BitVec 32 := Scalar.minsi v537 v544
  let c1_i32_323 : BitVec 32 := 1#32
  let c2_i32_322 : BitVec 32 := 2#32
  let c1_i32_319 : BitVec 32 := 1#32
  let v566 : BitVec 32 := Scalar.shrsi v2 c1_i32_319
  let c1_i32_320 : BitVec 32 := 1#32
  let v567 : BitVec 32 := Scalar.andi v566 c1_i32_320
  let v569 : BitVec 32 := Scalar.muli c2_i32_322 v567
  let v570 : BitVec 32 := Scalar.subi c1_i32_323 v569
  let c128_i32_324 : BitVec 32 := 128#32
  let v571 : BitVec 32 := Scalar.muli v570 c128_i32_324
  let v572 : BitVec 32 := Scalar.addi v565 v571
  let v593 : BitVec 32 := Scalar.minsi v565 v572
  let v596 : BitVec 32 := v593
  let c0_i32_347 : BitVec 32 := 0#32
  ![v596.toNat, 0]
def k0_dev15 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_342 : BitVec 32 := 1#32
  let v594 : BitVec 32 := Scalar.xori v2 c1_i32_342
  let c1_i32_345 : BitVec 32 := 1#32
  let v597 : BitVec 32 := Scalar.muli v594 c1_i32_345
  let v598 : BitVec 32 := Scalar.addi c0_i32_346 v597
  v598.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x16384 : Shape := ⟨2, ![768, 16384]⟩
abbrev S16384x768 : Shape := ⟨2, ![16384, 768]⟩
abbrev S2x256x16384 : Shape := ⟨3, ![2, 256, 16384]⟩
abbrev S2x256x256x64 : Shape := ⟨4, ![2, 256, 256, 64]⟩
abbrev S_ : Shape := ⟨0, ![]⟩
abbrev S2x256x256x1 : Shape := ⟨4, ![2, 256, 256, 1]⟩
abbrev S2x256x256x256 : Shape := ⟨4, ![2, 256, 256, 256]⟩
abbrev S2x256x256 : Shape := ⟨3, ![2, 256, 256]⟩
abbrev S2x256x64x256 : Shape := ⟨4, ![2, 256, 64, 256]⟩

abbrev nBuf : Space → Nat
  | .hbm => 46
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x16384, .f32⟩
  | .hbm, ⟨2, _⟩ => ⟨S768x16384, .f32⟩
  | .hbm, ⟨3, _⟩ => ⟨S768x16384, .f32⟩
  | .hbm, ⟨4, _⟩ => ⟨S16384x768, .f32⟩
  | .hbm, ⟨5, _⟩ => ⟨S2x256x16384, .f32⟩
  | .hbm, ⟨6, _⟩ => ⟨S2x256x256x64, .f32⟩
  | .hbm, ⟨7, _⟩ => ⟨S2x256x16384, .f32⟩
  | .hbm, ⟨8, _⟩ => ⟨S2x256x256x64, .f32⟩
  | .hbm, ⟨9, _⟩ => ⟨S2x256x16384, .f32⟩
  | .hbm, ⟨10, _⟩ => ⟨S2x256x256x64, .f32⟩
  | .hbm, ⟨11, _⟩ => ⟨S_, .f32⟩
  | .hbm, ⟨12, _⟩ => ⟨S2x256x256x64, .f32⟩
  | .hbm, ⟨13, _⟩ => ⟨S_, .f32⟩
  | .hbm, ⟨14, _⟩ => ⟨S2x256x256x1, .f32⟩
  | .hbm, ⟨15, _⟩ => ⟨S_, .f32⟩
  | .hbm, ⟨16, _⟩ => ⟨S2x256x256x1, .f32⟩
  | .hbm, ⟨17, _⟩ => ⟨S2x256x256x256, .f32⟩
  | .hbm, ⟨18, _⟩ => ⟨S_, .f32⟩
  | .hbm, ⟨19, _⟩ => ⟨S2x256x256x256, .f32⟩
  | .hbm, ⟨20, _⟩ => ⟨S2x256x256x256, .f32⟩
  | .hbm, ⟨21, _⟩ => ⟨S_, .f32⟩
  | .hbm, ⟨22, _⟩ => ⟨S2x256x256, .f32⟩
  | .hbm, ⟨23, _⟩ => ⟨S2x256x256x1, .f32⟩
  | .hbm, ⟨24, _⟩ => ⟨S2x256x256x1, .f32⟩
  | .hbm, ⟨25, _⟩ => ⟨S2x256x256x1, .f32⟩
  | .hbm, ⟨26, _⟩ => ⟨S2x256x256x1, .f32⟩
  | .hbm, ⟨27, _⟩ => ⟨S2x256x256x256, .f32⟩
  | .hbm, ⟨28, _⟩ => ⟨S2x256x256x256, .f32⟩
  | .hbm, ⟨29, _⟩ => ⟨S2x256x256x256, .f32⟩
  | .hbm, ⟨30, _⟩ => ⟨S2x256x256x1, .f32⟩
  | .hbm, ⟨31, _⟩ => ⟨S_, .f32⟩
  | .hbm, ⟨32, _⟩ => ⟨S2x256x256, .f32⟩
  | .hbm, ⟨33, _⟩ => ⟨S2x256x256x1, .f32⟩
  | .hbm, ⟨34, _⟩ => ⟨S2x256x256x1, .f32⟩
  | .hbm, ⟨35, _⟩ => ⟨S2x256x256x1, .f32⟩
  | .hbm, ⟨36, _⟩ => ⟨S2x256x256x64, .f32⟩
  | .hbm, ⟨37, _⟩ => ⟨S2x256x256x64, .f32⟩
  | .hbm, ⟨38, _⟩ => ⟨S2x256x64x256, .f32⟩
  | .hbm, ⟨39, _⟩ => ⟨S2x256x256x64, .f32⟩
  | .hbm, ⟨40, _⟩ => ⟨S2x256x256x64, .f32⟩
  | .hbm, ⟨41, _⟩ => ⟨S2x256x256x1, .f32⟩
  | .hbm, ⟨42, _⟩ => ⟨S2x256x256x64, .f32⟩
  | .hbm, ⟨43, _⟩ => ⟨S2x256x256x64, .f32⟩
  | .hbm, ⟨44, _⟩ => ⟨S2x256x16384, .f32⟩
  | .hbm, ⟨45, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Regions.lean ====
/-
The geometry of the recursive halving all-reduce over 32 devices: who talks to whom at each of the five steps, which
rows of the 512-row accumulator each step sends and keeps, and what those rows hold.

At step `k` a device `c` works on a block of `512 / 2^k` rows that starts at row `lo k c`; it keeps the half that starts
at `lo (k+1) c`, sends the half that starts at `sendLo k c` to its partner `par k c` (the device whose number differs in
bit `k`) and adds the partner's copy of the half it keeps. The gather walks the same blocks back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore
public import Idealize.ShloMosaic.Lib.Pipeline.Launch
public import Idealize.ShloMosaic.Lib.Pipeline.Kit
public import Idealize.ShloMosaic.Lib.Tactic

@[expose] public section

noncomputable section

namespace Cert.Halving

open Cert.KernelIdeal Cert.KernelIdeal.Gen
open Idealize.ShloMosaic
open Idealize.ShloMosaic.ValueIdx (ix2 eq_ix2 idx2_lt0 idx2_lt1)

variable {F : FTy → Type} [FloatOps F]

/-! ## Numbers -/

/-- Rows exchanged at step `k`: 256, 128, 64, 32, 16. -/
def half (k : Fin 5) : ℕ := 256 / 2 ^ k.val
/-- The row of the landing buffer at which step `k`'s rows land: 0, 256, 384, 448, 480. -/
def slot (k : Fin 5) : ℕ := 512 - 512 / 2 ^ k.val
/-- The partner at step `k`. -/
def par (k : Fin 5) (c : Dev nD) : Dev nD := ⟨(c.val ^^^ 2 ^ k.val) % 32, Nat.mod_lt _ (by decide)⟩
/-- Bit `k` of a device's number. -/
def bit (k : ℕ) (c : Dev nD) : ℕ := c.val / 2 ^ k % 2
/-- First row of the block device `c` works on before step `k`. -/
def lo : ℕ → Dev nD → ℕ
  | 0, _ => 0
  | k + 1, c => lo k c + bit k c * (256 / 2 ^ k)
/-- First row of the half that device `c` sends at step `k`. -/
def sendLo (k : ℕ) (c : Dev nD) : ℕ := lo k c + (1 - bit k c) * (256 / 2 ^ k)
/-- The device whose final 16-row block contains a row. -/
def owner (r : ℕ) : Dev nD :=
  ⟨(r / 256 % 2 + 2 * (r / 128 % 2) + 4 * (r / 64 % 2) + 8 * (r / 32 % 2) + 16 * (r / 16 % 2)) % 32, Nat.mod_lt _ (by decide)⟩

theorem par_par : ∀ (k : Fin 5) (c : Dev nD), par k (par k c) = c := by decide +kernel
theorem lo_succ_par : ∀ (k : Fin 5) (c : Dev nD), lo (k.val + 1) (par k c) = sendLo k.val c := by decide +kernel
theorem sendLo_par : ∀ (k : Fin 5) (c : Dev nD), sendLo k.val (par k c) = lo (k.val + 1) c := by decide +kernel
theorem lo_par : ∀ (k : Fin 5) (c : Dev nD), lo k.val (par k c) = lo k.val c := by decide +kernel
theorem halves : ∀ (k : Fin 5) (c : Dev nD),
    (lo (k.val + 1) c = lo k.val c ∧ sendLo k.val c = lo k.val c + half k)
      ∨ (lo (k.val + 1) c = lo k.val c + half k ∧ sendLo k.val c = lo k.val c) := by decide +kernel
theorem two_half : ∀ k : Fin 5, 512 / 2 ^ k.val = half k + half k := by decide +kernel
theorem half_eq_next : ∀ k : Fin 5, 512 / 2 ^ (k.val + 1) = half k := by decide +kernel
theorem lo_bound : ∀ (k : Fin 6) (c : Dev nD), lo k.val c + 512 / 2 ^ k.val ≤ 512 := by decide +kernel
theorem owner_lo : ∀ (c : Dev nD) (j : Fin 16), owner (lo 5 c + j.val) = c := by decide +kernel
theorem slot_bound : ∀ k : Fin 5, slot k + half k ≤ 496 := by decide +kernel
theorem half_pos : ∀ k : Fin 5, 0 < half k := by decide +kernel

/-! ## What the kernel computes at run time, in closed form -/

theorem dev1_eq : ∀ c : Dev nD, (⟨k0_dev1 c, k0_dev1_lt c⟩ : Dev nD) = par 0 c := by decide +kernel
theorem dev2_eq : ∀ c : Dev nD, (⟨k0_dev2 c, k0_dev2_lt c⟩ : Dev nD) = par 1 c := by decide +kernel
theorem dev3_eq : ∀ c : Dev nD, (⟨k0_dev3 c, k0_dev3_lt c⟩ : Dev nD) = par 2 c := by decide +kernel
theorem dev4_eq : ∀ c : Dev nD, (⟨k0_dev4 c, k0_dev4_lt c⟩ : Dev nD) = par 3 c := by decide +kernel
theorem dev5_eq : ∀ c : Dev nD, (⟨k0_dev5 c, k0_dev5_lt c⟩ : Dev nD) = par 4 c := by decide +kernel
theorem dev6_eq : ∀ c : Dev nD, (⟨k0_dev6 c, k0_dev6_lt c⟩ : Dev nD) = par 0 c := by decide +kernel
theorem dev7_eq : ∀ c : Dev nD, (⟨k0_dev7 c, k0_dev7_lt c⟩ : Dev nD) = par 1 c := by decide +kernel
theorem dev8_eq : ∀ c : Dev nD, (⟨k0_dev8 c, k0_dev8_lt c⟩ : Dev nD) = par 2 c := by decide +kernel
theorem dev9_eq : ∀ c : Dev nD, (⟨k0_dev9 c, k0_dev9_lt c⟩ : Dev nD) = par 3 c := by decide +kernel
theorem dev10_eq : ∀ c : Dev nD, (⟨k0_dev10 c, k0_dev10_lt c⟩ : Dev nD) = par 4 c := by decide +kernel
theorem dev11_eq : ∀ c : Dev nD, (⟨k0_dev11 c, k0_dev11_lt c⟩ : Dev nD) = par 4 c := by decide +kernel
theorem dev12_eq : ∀ c : Dev nD, (⟨k0_dev12 c, k0_dev12_lt c⟩ : Dev nD) = par 3 c := by decide +kernel
theorem dev13_eq : ∀ c : Dev nD, (⟨k0_dev13 c, k0_dev13_lt c⟩ : Dev nD) = par 2 c := by decide +kernel
theorem dev14_eq : ∀ c : Dev nD, (⟨k0_dev14 c, k0_dev14_lt c⟩ : Dev nD) = par 1 c := by decide +kernel
theorem dev15_eq : ∀ c : Dev nD, (⟨k0_dev15 c, k0_dev15_lt c⟩ : Dev nD) = par 0 c := by decide +kernel

theorem off1_eq : ∀ c : Dev nD, k0_off1 c = ![sendLo 0 c, 0] := by decide +kernel
theorem off2_eq : ∀ c : Dev nD, k0_off2 c = ![lo 1 c, 0] := by decide +kernel
theorem off3_eq : ∀ c : Dev nD, k0_off3 c = ![sendLo 1 c, 0] := by decide +kernel
theorem off4_eq : ∀ c : Dev nD, k0_off4 c = ![lo 2 c, 0] := by decide +kernel
theorem off5_eq : ∀ c : Dev nD, k0_off5 c = ![sendLo 2 c, 0] := by decide +kernel
theorem off6_eq : ∀ c : Dev nD, k0_off6 c = ![lo 3 c, 0] := by decide +kernel
theorem off7_eq : ∀ c : Dev nD, k0_off7 c = ![sendLo 3 c, 0] := by decide +kernel
theorem off8_eq : ∀ c : Dev nD, k0_off8 c = ![lo 4 c, 0] := by decide +kernel
theorem off9_eq : ∀ c : Dev nD, k0_off9 c = ![sendLo 4 c, 0] := by decide +kernel
theorem off10_eq : ∀ c : Dev nD, k0_off10 c = ![lo 5 c, 0] := by decide +kernel
theorem off11_eq : ∀ c : Dev nD, k0_off11 c = ![lo 5 c, 0] := by decide +kernel
theorem off12_eq : ∀ c : Dev nD, k0_off12 c = ![lo 4 c, 0] := by decide +kernel
theorem off13_eq : ∀ c : Dev nD, k0_off13 c = ![lo 3 c, 0] := by decide +kernel
theorem off14_eq : ∀ c : Dev nD, k0_off14 c = ![lo 2 c, 0] := by decide +kernel
theorem off15_eq : ∀ c : Dev nD, k0_off15 c = ![lo 1 c, 0] := by decide +kernel

/-! ## Row sets -/

/-- The elements of rows `a`, …, `a + n - 1` of an array of 768 columns. -/
def rows {R : ℕ} (a n : ℕ) : Finset (⟨2, ![R, 768]⟩ : Shape).Idx :=
  Finset.univ.filter fun i => a ≤ (i 0).val ∧ (i 0).val < a + n

theorem mem_rows {R a n : ℕ} {i : (⟨2, ![R, 768]⟩ : Shape).Idx} : i ∈ rows a n ↔ a ≤ (i 0).val ∧ (i 0).val < a + n := by
  simp [rows]

theorem rows_all {R : ℕ} : (rows 0 R : Finset (⟨2, ![R, 768]⟩ : Shape).Idx) = Finset.univ := by
  ext i; rw [mem_rows]; have := idx2_lt0 i; simp [this]

theorem rows_add {R a n n' : ℕ} : (rows a (n + n') : Finset (⟨2, ![R, 768]⟩ : Shape).Idx) = rows a n ∪ rows (a + n) n' := by
  ext i; simp only [Finset.mem_union, mem_rows]; omega

theorem rows_disjoint {R a n a' n' : ℕ} (h : a + n ≤ a' ∨ a' + n' ≤ a) :
    Disjoint (rows a n : Finset (⟨2, ![R, 768]⟩ : Shape).Idx) (rows a' n') := by
  rw [Finset.disjoint_left]; intro i; simp only [mem_rows]; omega

theorem keep_send_disjoint {R : ℕ} (k : Fin 5) (c : Dev nD) :
    Disjoint (rows (lo (k.val + 1) c) (half k) : Finset (⟨2, ![R, 768]⟩ : Shape).Idx) (rows (sendLo k.val c) (half k)) :=
  rows_disjoint (by rcases halves k c with ⟨h1, h2⟩ | ⟨h1, h2⟩ <;> rw [h1, h2] <;> simp)

/-- A step's block is the half it keeps and the half it sends. -/
theorem keep_send_union {R : ℕ} (k : Fin 5) (c : Dev nD) :
    (rows (lo k.val c) (512 / 2 ^ k.val) : Finset (⟨2, ![R, 768]⟩ : Shape).Idx)
      = rows (lo (k.val + 1) c) (half k) ∪ rows (sendLo k.val c) (half k) := by
  ext i
  simp only [Finset.mem_union, mem_rows]
  have h2 := two_half k
  rcases halves k c with ⟨h1, h3⟩ | ⟨h1, h3⟩ <;> rw [h1, h3, h2] <;> omega

/-- A unit-stride rectangle over all columns is a set of rows. -/
theorem rect_set {R n a : ℕ} {off : Fin 2 → ℕ} (hoff : off = ![a, 0])
    {inb : ∀ x, off x + (⟨2, ![n, 768]⟩ : Shape).size x ≤ (⟨2, ![R, 768]⟩ : Shape).size x} :
    (Rect.unit (s := ⟨2, ![R, 768]⟩) off (⟨2, ![n, 768]⟩ : Shape).size inb).set = rows a n := by
  subst hoff
  ext i
  rw [Rect.mem_set_unit, mem_rows, Fin.forall_fin_two]
  have h1 := idx2_lt1 i
  constructor
  · intro h; exact h.1
  · intro h; exact ⟨h, Nat.zero_le _, by show (i 1).val < 0 + 768; omega⟩

/-! ## Contents -/

/-- The accumulator's contents before step `k`, on the rows of the step's block: the device's own partial sums at the
    start, then what it held plus what its partner held. -/
def acc (P : Dev nD → FVec F S512x768 .f32) : ℕ → Dev nD → FVec F S512x768 .f32
  | 0, c => P c
  | k + 1, c => addf (acc P k c) (acc P k (if h : k < 5 then par ⟨k, h⟩ c else c))

theorem acc_succ (P : Dev nD → FVec F S512x768 .f32) (k : Fin 5) (c : Dev nD) :
    acc P (k.val + 1) c = addf (acc P k.val c) (acc P k.val (par k c)) := by
  show addf _ _ = _
  rw [dif_pos k.isLt]

/-- The row of the accumulator that lands in row `r` of the landing buffer at step `k`. -/
def fromRow (k : Fin 5) (c : Dev nD) (r : ℕ) : Fin 512 := ⟨(lo (k.val + 1) c + (r - slot k)) % 512, Nat.mod_lt _ (by decide)⟩

/-- What the partner's rows make of the landing buffer at step `k`. -/
def landing (P : Dev nD → FVec F S512x768 .f32) (k : Fin 5) (c : Dev nD) : FVec F S496x768 .f32 :=
  fun i => acc P k.val (par k c) (ix2 (fromRow k c (i 0).val) (i 1))

/-- The gathered array: every row as its owner finished it. -/
def gathered (P : Dev nD → FVec F S512x768 .f32) : FVec F S512x768 .f32 := fun i => acc P 5 (owner (i 0).val) i

theorem gathered_eq (P : Dev nD → FVec F S512x768 .f32) (c : Dev nD) (i : S512x768.Idx) (hi : i ∈ rows (lo 5 c) 16) :
    gathered P i = acc P 5 c i := by
  rw [mem_rows] at hi
  have h := owner_lo c ⟨(i 0).val - lo 5 c, by omega⟩
  rw [show lo 5 c + ((i 0).val - lo 5 c) = (i 0).val from by omega] at h
  unfold gathered; rw [h]

/-! ## Reading and writing through row windows -/

abbrev aM : Memref sig .tc .vmem S512x768 .f32 := Memref.whole cc0_scratch0
abbrev cM : Memref sig .tc .vmem S496x768 .f32 := Memref.whole cc0_scratch1

section Windows
variable {n a b : ℕ} {off off' : Fin 2 → ℕ}

/-- The window of `n` rows of the accumulator from offset `off`. -/
abbrev aW (n : ℕ) (off : Fin 2 → ℕ) (inb : ∀ x, off x + (⟨2, ![n, 768]⟩ : Shape).size x ≤ S512x768.size x) : Memref sig .tc .vmem ⟨2, ![n, 768]⟩ .f32 :=
  aM.slice (Rect.unit (s := S512x768) off (⟨2, ![n, 768]⟩ : Shape).size inb) (fun _ => rfl)
/-- The window of `n` rows of the landing buffer from offset `off`. -/
abbrev cW (n : ℕ) (off : Fin 2 → ℕ) (inb : ∀ x, off x + (⟨2, ![n, 768]⟩ : Shape).size x ≤ S496x768.size x) : Memref sig .tc .vmem ⟨2, ![n, 768]⟩ .f32 :=
  cM.slice (Rect.unit (s := S496x768) off (⟨2, ![n, 768]⟩ : Shape).size inb) (fun _ => rfl)

theorem aW_set (hoff : off = ![a, 0]) {inb} : (aW n off inb).view.set = rows a n :=
  (View.set_slice_whole _ _).trans (rect_set hoff)
theorem cW_set (hoff : off = ![a, 0]) {inb} : (cW n off inb).view.set = rows a n :=
  (View.set_slice_whole _ _).trans (rect_set hoff)

/-- Step `k`'s rows, once landed: on its slot the landing buffer holds the partner's rows. -/
theorem landed_eq (P : Dev nD → FVec F S512x768 .f32) (k : Fin 5) (c : Dev nD) (hn : n = half k)
    (hs : off = ![sendLo k.val c, 0]) (hd : off' = ![slot k, 0]) {inb inb'} (fd : FVec F S496x768 .f32) (i : S496x768.Idx)
    (hi : i ∈ rows (slot k) (half k)) :
    (cW n off' inb').view.write (Elt F) fd ((aW n off inb).view.read (Elt F) (acc P k.val c)) Finset.univ i
      = landing P k (par k c) i := by
  subst hn hs hd
  rw [mem_rows] at hi
  have hx : ((i 0).val - slot k) < half k := by omega
  have hi' : i = (cW (half k) ![slot k, 0] inb').view.emb (ix2 ⟨(i 0).val - slot k, hx⟩ (i 1)) := by
    funext d
    match d with
    | ⟨0, _⟩ => exact Fin.ext (by show (i 0).val = slot k + 1 * ((i 0).val - slot k); omega)
    | ⟨1, _⟩ => exact Fin.ext (by show (i 1).val = 0 + 1 * (i 1).val; omega)
  conv_lhs => rw [hi']
  rw [View.write_emb_of_mem _ _ (Finset.mem_univ _)]
  show acc P k.val c _ = acc P k.val (par k (par k c)) _
  rw [par_par]
  congr 1
  have hb : sendLo k.val c + half k ≤ 512 := inb 0
  funext d
  match d with
  | ⟨0, _⟩ =>
    refine Fin.ext ?_
    show sendLo k.val c + 1 * ((i 0).val - slot k) = (lo (k.val + 1) (par k c) + ((i 0).val - slot k)) % 512
    rw [lo_succ_par, Nat.mod_eq_of_lt (by omega)]; omega
  | ⟨1, _⟩ => exact Fin.ext (by show 0 + 1 * (i 1).val = (i 1).val; omega)

/-- The sum stored back at step `k`: on the rows kept, the accumulator holds the next step's contents. -/
theorem added_eq (P : Dev nD → FVec F S512x768 .f32) (k : Fin 5) (c : Dev nD) (hn : n = half k)
    (hs : off = ![lo (k.val + 1) c, 0]) (hd : off' = ![slot k, 0]) {inb inb'} (f : FVec F S512x768 .f32)
    (w : FVec F ⟨2, ![n, 768]⟩ .f32)
    (hw : w = addf (aM.view.readAt (Elt F) (Rect.unit (s := S512x768) off (⟨2, ![n, 768]⟩ : Shape).size inb).toLoadRect (acc P k.val c))
      (cM.view.readAt (Elt F) (Rect.unit (s := S496x768) off' (⟨2, ![n, 768]⟩ : Shape).size inb').toLoadRect (landing P k c)))
    (i : S512x768.Idx) (hi : i ∈ rows (lo (k.val + 1) c) (half k)) :
    (aM.access (Rect.unit (s := S512x768) off (⟨2, ![n, 768]⟩ : Shape).size inb)).write (Elt F) f w Finset.univ i
      = acc P (k.val + 1) c i := by
  subst hn hs hd hw
  rw [mem_rows] at hi
  have hx : ((i 0).val - lo (k.val + 1) c) < half k := by omega
  have hi' : i = (aM.access (Rect.unit (s := S512x768) ![lo (k.val + 1) c, 0] (⟨2, ![half k, 768]⟩ : Shape).size inb)).emb
      (ix2 ⟨(i 0).val - lo (k.val + 1) c, hx⟩ (i 1)) := by
    funext d
    match d with
    | ⟨0, _⟩ => exact Fin.ext (by show (i 0).val = lo (k.val + 1) c + 1 * ((i 0).val - lo (k.val + 1) c); omega)
    | ⟨1, _⟩ => exact Fin.ext (by show (i 1).val = 0 + 1 * (i 1).val; omega)
  conv_lhs => rw [hi']
  rw [View.write_emb_of_mem _ _ (Finset.mem_univ _), acc_succ]
  have hb : lo (k.val + 1) c + half k ≤ 512 := inb 0
  show FloatOps.addf (acc P k.val c _) (acc P k.val (par k c) _) = FloatOps.addf (acc P k.val c i) (acc P k.val (par k c) i)
  congr 2
  · exact hi'.symm
  · funext d
    match d with
    | ⟨0, _⟩ =>
      refine Fin.ext ?_
      show (lo (k.val + 1) c + (slot k + 1 * ((i 0).val - lo (k.val + 1) c) - slot k)) % 512 = (i 0).val
      rw [Nat.mod_eq_of_lt (by omega)]; omega
    | ⟨1, _⟩ => exact Fin.ext (by show 0 + 1 * (i 1).val = (i 1).val; omega)

/-- Rows copied from the gathered array into the same rows elsewhere make them the gathered array's. -/
theorem copied_eq (g fd : FVec F S512x768 .f32) (ha : off = ![a, 0]) {inb} (i : S512x768.Idx) (hi : i ∈ rows a n) :
    (aW n off inb).view.write (Elt F) fd ((aW n off inb).view.read (Elt F) g) Finset.univ i = g i := by
  have h : i ∈ (aW n off inb).view.set := by rw [aW_set ha]; exact hi
  obtain ⟨x, -, rfl⟩ := Finset.mem_map.mp h
  rw [View.write_emb_of_mem _ _ (Finset.mem_univ _)]
  rfl

end Windows

end Cert.Halving

end
-- ==== Proof.Schedule.lean ====
/-
The protocol of the all-reduce as rounds of semaphore cells, over the partial sums `P` of the devices.

A device has one barrier cell and four cells for each of the five steps: two that count the halving's transfer of the
step (sent, received) and two for the gather's. Every cell has one round. A barrier cell has five duties, one per
partner: the partner of step `d` hands the rows of its landing buffer that step `d` fills. A halving transfer's receive
cell is paid with those rows filled and with the rows the sender has just sent from, into which the gather's transfer
of the same step will later go.
-/
module

public import proofs.«01_k».proof.Proof.Regions

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Rows `a`, …, `a + n - 1` of device `c`'s accumulator, holding `f`. -/
def accPts (c : Dev nD) (a n : ℕ) (f : FVec F S512x768 .f32) : sProp 𝕄 := aM.view.loc (c : Thread nD τ) ↦[rows a n]{fullShare} f
/-- Rows `a`, …, `a + n - 1` of device `c`'s landing buffer, holding `f`. -/
def comPts (c : Dev nD) (a n : ℕ) (f : FVec F S496x768 .f32) : sProp 𝕄 := cM.view.loc (c : Thread nD τ) ↦[rows a n]{fullShare} f

omit [FloatOps F] in
instance accPts_storable (c : Dev nD) (a n : ℕ) (f) : BI.Storable (upEmb : UEmb _ 𝕄) (accPts (F := F) c a n f) := by unfold accPts; infer_instance
omit [FloatOps F] in
instance comPts_storable (c : Dev nD) (a n : ℕ) (f) : BI.Storable (upEmb : UEmb _ 𝕄) (comPts (F := F) c a n f) := by unfold comPts; infer_instance

omit [FloatOps F] in
theorem accPts_congr {c : Dev nD} {a n : ℕ} {f g : FVec F S512x768 .f32} (h : ∀ i ∈ rows a n, f i = g i) :
    (accPts c a n f : sProp 𝕄) = accPts c a n g := by unfold accPts; exact pointsTo_congr h
omit [FloatOps F] in
theorem comPts_congr {c : Dev nD} {a n : ℕ} {f g : FVec F S496x768 .f32} (h : ∀ i ∈ rows a n, f i = g i) :
    (comPts c a n f : sProp 𝕄) = comPts c a n g := by unfold comPts; exact pointsTo_congr h

/-! ## Cells -/

abbrev barS : Sem sig := (SemArray.scalar (sig.barrier 0 rfl) : Sems sig S_).sem
/-- The DMA semaphores: `a` = 0, 1 the halving's sent and received, 2, 3 the gather's; `k` the step. -/
def dsem (a : Fin 4) (k : Fin 5) : DmaSem sig := ⟨6 + (k.val + 5 * a.val), by show 6 + (k.val + 5 * a.val) < 26; omega⟩
/-- Which of the four kinds a DMA semaphore is, and which step it serves. -/
def kindOf (q : DmaSem sig) : ℕ := (q.val - 6) / 5
def stepOf (q : DmaSem sig) : Fin 5 := ⟨(q.val - 6) % 5, Nat.mod_lt _ (by decide)⟩
theorem kind_dsem : ∀ a k, kindOf (dsem a k) = a.val := by decide +kernel
theorem step_dsem : ∀ a k, stepOf (dsem a k) = k := by decide +kernel
theorem dsem_inj : ∀ a k a' k', dsem a k = dsem a' k' → a = a' ∧ k = k' := by decide +kernel

abbrev barCell (c : Dev nD) : GSem nD τ sig := ((c : Thread nD τ), .reg barS)
abbrev dmaCell (a : Fin 4) (k : Fin 5) (c : Dev nD) : GSem nD τ sig := ((c : Thread nD τ), .dma (dsem a k))

/-- The protocol's cells of one device: the barrier's and the twenty of the transfers. -/
abbrev CI : Type := Unit ⊕ (Fin 4 × Fin 5)
abbrev csem : CI → SemLoc sig
  | .inl _ => .reg barS
  | .inr ak => .dma (dsem ak.1 ak.2)
abbrev kcell (ci : Dev nD × CI) : GSem nD τ sig := ((ci.1 : Thread nD τ), csem ci.2)

/-- What a transfer of `n` rows credits. -/
def cr (n : ℕ) : ℕ := sig.dmaCredit .tc (Kind.table .tc .vmem) aM.view.buf ⟨2, ![n, 768]⟩ .f32
theorem cr_pos (k : Fin 5) : 0 < cr (half k) :=
  sig.dmaCredit_pos _ _ _ _ _ (by
    have := half_pos k
    show 0 < ∏ i : Fin 2, (![half k, 768] : Fin 2 → ℕ) i
    rw [Fin.prod_univ_two]; exact Nat.mul_pos this (show 0 < 768 by decide))

/-! ## The schedule -/

section Sched
variable (P : Dev nD → FVec F S512x768 .f32)

/-- What the partner of step `d` hands device `c` before the first transfer: the rows of its landing buffer for step `d`. -/
def barPay (c : Dev nD) (d : Fin 5) : sProp 𝕄 := iprop(∃ f, comPts (par d c) (slot d) (half d) f)
/-- What a transfer's completion is worth to device `c`. -/
def dmaPay (c : Dev nD) (k : Fin 5) : ℕ → sProp 𝕄
  | 1 => iprop(comPts c (slot k) (half k) (landing P k c) ∗ ∃ f, accPts (par k c) (lo (k.val + 1) c) (half k) f)
  | 2 => accPts c (lo (k.val + 1) c) (half k) (gathered P)
  | 3 => accPts c (sendLo k.val c) (half k) (gathered P)
  | _ => iprop(emp)

instance barPay_storable (c : Dev nD) (d : Fin 5) : BI.Storable (upEmb : UEmb _ 𝕄) (barPay (F := F) c d) := by unfold barPay; infer_instance
instance dmaPay_storable (c : Dev nD) (k : Fin 5) (a : ℕ) : BI.Storable (upEmb : UEmb _ 𝕄) (dmaPay P c k a) := by
  unfold dmaPay; split <;> infer_instance

def Rd : Rounds.Schedule (GSem nD τ sig) (Fin 5) 𝕄 where
  duties g r := if r = 0 then (match g.2 with | .reg _ => Finset.univ | .dma _ => {0}) else ∅
  unitless _ := False
  amount g _ _ := match g.2 with | .reg _ => 1 | .dma q => cr (half (stepOf q))
  payload g _ d := match g.2 with | .reg _ => barPay g.1.1 d | .dma q => dmaPay P g.1.1 (stepOf q) (kindOf q)
  amount_pos g _ _ _ := by
    cases g.2 with
    | reg s => exact Nat.one_pos
    | dma q => exact cr_pos _

instance Rd_payload_storable (g : GSem nD τ sig) (r : ℕ) (d : Fin 5) : BI.Storable (upEmb : UEmb _ 𝕄) ((Rd P).payload g r d) := by
  show BI.Storable upEmb (match g.2 with | .reg _ => barPay g.1.1 d | .dma q => dmaPay P g.1.1 (stepOf q) (kindOf q))
  split <;> infer_instance

variable (c : Dev nD) (a : Fin 4) (k : Fin 5)

theorem duties_bar : (Rd P).duties (barCell c) 0 = Finset.univ := rfl
theorem duties_dma : (Rd P).duties (dmaCell a k c) 0 = {0} := rfl
theorem duties_later (g : GSem nD τ sig) : ∀ r, 1 ≤ r → (Rd P).duties g r = ∅ := fun r hr => by
  dsimp only [Rd]; rw [if_neg (by omega)]
theorem amount_bar (d : Fin 5) : (Rd P).amount (barCell c) 0 d = 1 := rfl
theorem amount_dma (d : Fin 5) : (Rd P).amount (dmaCell a k c) 0 d = cr (half k) := by
  show cr (half (stepOf (dsem a k))) = _; rw [step_dsem]
theorem expect_bar : (Rd P).expect (barCell c) 0 = 5 := by
  unfold Schedule.expect Schedule.amountOf
  rw [duties_bar, Finset.sum_congr rfl fun d _ => amount_bar P c d]; rfl
theorem expect_dma : (Rd P).expect (dmaCell a k c) 0 = cr (half k) := by
  unfold Schedule.expect Schedule.amountOf; rw [duties_dma, Finset.sum_singleton, amount_dma]
theorem payload_bar (d : Fin 5) : (Rd P).payload (barCell c) 0 d = barPay c d := rfl
theorem payload_dma (d : Fin 5) : (Rd P).payload (dmaCell a k c) 0 d = dmaPay P c k a.val := by
  show dmaPay P c (stepOf (dsem a k)) (kindOf (dsem a k)) = _; rw [step_dsem, kind_dsem]
theorem rest_bar : bigSep ((Rd P).duties (barCell c) 0 \ ∅) (fun d => (Rd P).payload (barCell c) 0 d)
    = iprop(barPay c 0 ∗ barPay c 1 ∗ barPay c 2 ∗ barPay c 3 ∗ barPay c 4) := by
  rw [Finset.sdiff_empty, duties_bar]
  exact bigSep_univ_eq_bigSepL [0, 1, 2, 3, 4] (by decide) (by decide) _
theorem rest_dma : bigSep ((Rd P).duties (dmaCell a k c) 0 \ ∅) (fun d => (Rd P).payload (dmaCell a k c) 0 d) = dmaPay P c k a.val := by
  rw [Finset.sdiff_empty, duties_dma, bigSep_singleton, payload_dma]

end Sched

/-! ## What a device owes, and the order of waiting -/

abbrev CT : Type := CellTallies nD τ sig Unit

abbrev owedDma (a : Fin 4) (i : Fin 5) (c : Dev nD) : CT := tallyAt (dmaCell a i (par i c)) () (cr (half i))
/-- The gather's transfers of steps below `j`. -/
def OG (j : ℕ) (c : Dev nD) : CT := ∑ i : Fin 5, if i.val < j then owedDma 3 i c else 0
/-- All of those and the halving's transfers from step `j` on. -/
def OR (j : ℕ) (c : Dev nD) : CT := OG 5 c + ∑ i : Fin 5, if j ≤ i.val then owedDma 1 i c else 0
/-- All of those and the barrier signals from step `j` on. -/
def OB (j : ℕ) (c : Dev nD) : CT := OR 0 c + ∑ i : Fin 5, if j ≤ i.val then (tallyAt (barCell (par i c)) () 1 : CT) else 0

theorem OG_zero (c : Dev nD) : OG 0 c = 0 := by simp [OG]
theorem sum_below {A : Type} [AddCommMonoid A] (f : Fin 5 → A) (k : Fin 5) :
    (∑ i : Fin 5, if i.val < k.val + 1 then f i else 0) = (∑ i : Fin 5, if i.val < k.val then f i else 0) + f k := by
  rw [← Finset.sum_filter, ← Finset.sum_filter, show (Finset.univ.filter fun i : Fin 5 => i.val < k.val + 1)
    = insert k (Finset.univ.filter fun i : Fin 5 => i.val < k.val) from by ext i; simp [Fin.ext_iff]; omega,
    Finset.sum_insert (by simp), add_comm]
theorem sum_from {A : Type} [AddCommMonoid A] (f : Fin 5 → A) (k : Fin 5) :
    (∑ i : Fin 5, if k.val ≤ i.val then f i else 0) = (∑ i : Fin 5, if k.val + 1 ≤ i.val then f i else 0) + f k := by
  rw [← Finset.sum_filter, ← Finset.sum_filter, show (Finset.univ.filter fun i : Fin 5 => k.val ≤ i.val)
    = insert k (Finset.univ.filter fun i : Fin 5 => k.val + 1 ≤ i.val) from by ext i; simp [Fin.ext_iff]; omega,
    Finset.sum_insert (by simp), add_comm]
theorem OG_succ (k : Fin 5) (c : Dev nD) : OG (k.val + 1) c = OG k.val c + owedDma 3 k c := sum_below _ k
theorem OR_step (k : Fin 5) (c : Dev nD) : OR k.val c = OR (k.val + 1) c + owedDma 1 k c := by
  unfold OR; rw [add_assoc, ← sum_from]
theorem OR_five (c : Dev nD) : OR 5 c = OG 5 c := by
  unfold OR
  rw [Finset.sum_eq_zero fun i _ => if_neg (show ¬ 5 ≤ i.val by omega), add_zero]
theorem OB_step (k : Fin 5) (c : Dev nD) : OB k.val c = OB (k.val + 1) c + tallyAt (barCell (par k c)) () 1 := by
  unfold OB; rw [add_assoc, ← sum_from]
theorem OB_five (c : Dev nD) : OB 5 c = OR 0 c := by
  unfold OB
  rw [Finset.sum_eq_zero fun i _ => if_neg (show ¬ 5 ≤ i.val by omega), add_zero]

abbrev O₀ (c : Dev nD) : CT := OB 0 c

def L (g : GSem nD τ sig) : Finset Unit := if g.1.2 = .tc then {()} else ∅
/-- The staging and sent cells at 0, the barrier at 1, then the halving's receive cells in order of the steps, then the
    gather's in the reverse order. -/
def lv (g : GSem nD τ sig) (_ : Unit) : ℕ :=
  match g.2 with
  | .reg _ => 1
  | .dma q => if kindOf q = 1 then 2 + (stepOf q).val else if kindOf q = 3 then 11 - (stepOf q).val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (a : Fin 4) (k : Fin 5) (c : Dev nD) :
    lv (dmaCell a k c) () = if a.val = 1 then 2 + k.val else if a.val = 3 then 11 - k.val else 0 := by
  show (if kindOf (dsem a k) = 1 then _ else _) = _
  rw [kind_dsem, step_dsem]

theorem sum_pos {f : Fin 5 → CT} {p : Fin 5 → Prop} [DecidablePred p] {g : GSem nD τ sig} {u : Unit}
    (h : 0 < (∑ i : Fin 5, if p i then f i else 0) g u) : ∃ i, p i ∧ 0 < f i g u := by
  rw [Finset.sum_apply, Finsupp.finset_sum_apply] at h
  obtain ⟨i, -, hi⟩ := Finset.exists_ne_zero_of_sum_ne_zero (Nat.ne_of_gt h)
  by_cases hp : p i
  · rw [if_pos hp] at hi; exact ⟨i, hp, Nat.pos_of_ne_zero hi⟩
  · rw [if_neg hp] at hi; exact absurd rfl hi
theorem tally_pos {x g : GSem nD τ sig} {u : Unit} {n : ℕ} (h : 0 < (tallyAt x () n : CT) g u) : g = x := by
  rw [tallyAt_apply] at h
  by_contra hn
  rw [if_neg fun h' => hn h'.1] at h; exact Nat.lt_irrefl 0 h
theorem OG_pos {j : ℕ} {c : Dev nD} {g : GSem nD τ sig} {u : Unit} (h : 0 < OG j c g u) :
    ∃ i : Fin 5, i.val < j ∧ g = dmaCell 3 i (par i c) := by
  obtain ⟨i, hi, hp⟩ := sum_pos h
  exact ⟨i, hi, tally_pos hp⟩
theorem OR_pos {j : ℕ} {c : Dev nD} {g : GSem nD τ sig} {u : Unit} (h : 0 < OR j c g u) :
    (∃ i : Fin 5, g = dmaCell 3 i (par i c)) ∨ ∃ i : Fin 5, j ≤ i.val ∧ g = dmaCell 1 i (par i c) := by
  unfold OR at h
  rw [Pi.add_apply, Finsupp.add_apply] at h
  rcases Nat.eq_zero_or_pos (OG 5 c g u) with h0 | h0
  · rw [h0, Nat.zero_add] at h
    obtain ⟨i, hi, hp⟩ := sum_pos h
    exact .inr ⟨i, hi, tally_pos hp⟩
  · obtain ⟨i, -, hi⟩ := OG_pos h0
    exact .inl ⟨i, hi⟩
theorem OB_pos {j : ℕ} {c : Dev nD} {g : GSem nD τ sig} {u : Unit} (h : 0 < OB j c g u) :
    (∃ i : Fin 5, g = dmaCell 3 i (par i c)) ∨ (∃ i : Fin 5, g = dmaCell 1 i (par i c)) ∨ ∃ i : Fin 5, g = barCell (par i c) := by
  unfold OB at h
  rw [Pi.add_apply, Finsupp.add_apply] at h
  rcases Nat.eq_zero_or_pos (OR 0 c g u) with h0 | h0
  · rw [h0, Nat.zero_add] at h
    obtain ⟨i, -, hp⟩ := sum_pos h
    exact .inr (.inr ⟨i, tally_pos hp⟩)
  · rcases OR_pos h0 with ⟨i, hi⟩ | ⟨i, -, hi⟩
    · exact .inl ⟨i, hi⟩
    · exact .inr (.inl ⟨i, hi⟩)

omit [FloatOps F] in
/-- A device may wait on a cell of level `b` while all it owes lies above `b`. -/
theorem mayWait_of (c : Dev nD) (sm : SemLoc sig) (O : CT) (b : ℕ) (hb : lv ((c : Thread nD τ), sm) () ≤ b)
    (h : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hb)
    (fun g u hg => (h g u hg).2)

theorem above_OG {j b : ℕ} {c : Dev nD} (hb : b + j ≤ 11) (g : GSem nD τ sig) (u : Unit) (h : 0 < OG j c g u) :
    g.1.2 = .tc ∧ b < lv g u := by
  obtain ⟨i, hi, rfl⟩ := OG_pos h
  refine ⟨rfl, ?_⟩
  cases u; rw [lv_dma]; simp; omega
theorem above_OR {j b : ℕ} {c : Dev nD} (hb : b ≤ j + 1) (hj : b ≤ 6) (g : GSem nD τ sig) (u : Unit) (h : 0 < OR j c g u) :
    g.1.2 = .tc ∧ b < lv g u := by
  rcases OR_pos h with ⟨i, rfl⟩ | ⟨i, hi, rfl⟩
  · refine ⟨rfl, ?_⟩; cases u; rw [lv_dma]; simp; omega
  · refine ⟨rfl, ?_⟩; cases u; rw [lv_dma]; simp; omega
theorem above_OB {j : ℕ} {c : Dev nD} (g : GSem nD τ sig) (u : Unit) (h : 0 < OB j c g u) :
    g.1.2 = .tc ∧ 0 < lv g u := by
  rcases OB_pos h with ⟨i, rfl⟩ | ⟨i, rfl⟩ | ⟨i, rfl⟩
  · refine ⟨rfl, ?_⟩; cases u; rw [lv_dma]; simp; omega
  · refine ⟨rfl, ?_⟩; cases u; rw [lv_dma]; simp
  · exact ⟨rfl, Nat.one_pos⟩

/-! ## Cells' invariants, known to all -/

section Records
variable (P : Dev nD → FVec F S512x768 .f32)

/-- Every cell of every device is under its invariant and open for its round. -/
def records (K : Dev nD × CI → ℕ) : sProp 𝕄 :=
  iprop((bigSep Finset.univ fun ci : Dev nD × CI => cellInv ER (Rd P) (K ci) (kcell ci))
    ∗ bigSep Finset.univ fun ci : Dev nD × CI => reached ER (kcell ci) 0)

instance records_persistent (K : Dev nD × CI → ℕ) : BI.Persistent (records P K) := by unfold records; infer_instance

theorem inv_at (K : Dev nD × CI → ℕ) (ci : Dev nD × CI) : records P K ⊢ cellInv ER (Rd P) (K ci) (kcell ci) := by
  have h : (bigSep Finset.univ fun ci : Dev nD × CI => (cellInv ER (Rd P) (K ci) (kcell ci) : sProp 𝕄))
      ⊢ cellInv ER (Rd P) (K ci) (kcell ci) := bigSep_elim (Finset.mem_univ ci)
  unfold records
  iintro ⟨H, -⟩
  iapply h; iexact H
theorem reached_at (K : Dev nD × CI → ℕ) (ci : Dev nD × CI) : records P K ⊢ reached ER (kcell ci) 0 := by
  have h : (bigSep Finset.univ fun ci : Dev nD × CI => (reached ER (kcell ci) 0 : sProp 𝕄)) ⊢ reached ER (kcell ci) 0 :=
    bigSep_elim (Finset.mem_univ ci)
  unfold records
  iintro ⟨-, H⟩
  iapply h; iexact H

end Records

/-- What device `c` brings to the halving's step `k`: its place in the two cells, the right to pay its own sent cell and
    its partner's receive cell, and the credit it will be paid. -/
def rsIn (k : Fin 5) (c : Dev nD) : sProp 𝕄 :=
  iprop(atPos ER (dmaCell 0 k c) 0 ∅ 0 ∗ atPos ER (dmaCell 1 k c) 0 ∅ 0 ∗ dutyTok ER (dmaCell 0 k c) 0 0
    ∗ dutyTok ER (dmaCell 1 k (par k c)) 0 0 ∗ cred (tallyAt (dmaCell 1 k c) () (cr (half k))))
/-- The same for the gather's step `k`. -/
def agIn (k : Fin 5) (c : Dev nD) : sProp 𝕄 :=
  iprop(atPos ER (dmaCell 2 k c) 0 ∅ 0 ∗ atPos ER (dmaCell 3 k c) 0 ∅ 0 ∗ dutyTok ER (dmaCell 2 k c) 0 0
    ∗ dutyTok ER (dmaCell 3 k (par k c)) 0 0 ∗ cred (tallyAt (dmaCell 3 k c) () (cr (half k))))

end Cert.Halving

end
-- ==== Proof.Steps.lean ====
/-
One step of the halving and one step of the gather, executed: the transfer, the two waits, and for the halving the sum
of the rows kept with the rows received.
-/
module

public import proofs.«01_k».proof.Proof.Schedule

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

theorem aM_setOn {n a : ℕ} {off : Fin 2 → ℕ} (hoff : off = ![a, 0]) {inb} :
    aM.view.setOn (Rect.unit (s := S512x768) off (⟨2, ![n, 768]⟩ : Shape).size inb).toLoadRect.set = rows a n :=
  (Finset.map_refl (s := (Rect.unit (s := S512x768) off (⟨2, ![n, 768]⟩ : Shape).size inb).set)).trans (rect_set hoff)
theorem cM_setOn {n a : ℕ} {off : Fin 2 → ℕ} (hoff : off = ![a, 0]) {inb} :
    cM.view.setOn (Rect.unit (s := S496x768) off (⟨2, ![n, 768]⟩ : Shape).size inb).toLoadRect.set = rows a n :=
  (Finset.map_refl (s := (Rect.unit (s := S496x768) off (⟨2, ![n, 768]⟩ : Shape).size inb).set)).trans (rect_set hoff)

/-- A step's block of the accumulator is the half kept and the half sent. -/
theorem accPts_halves (c : Dev nD) (k : Fin 5) (f : FVec F S512x768 .f32) :
    (accPts c (lo k.val c) (512 / 2 ^ k.val) f : sProp 𝕄)
      ⊣⊢ iprop(accPts c (lo (k.val + 1) c) (half k) f ∗ accPts c (sendLo k.val c) (half k) f) := by
  unfold accPts
  rw [keep_send_union]
  exact pointsTo_union (keep_send_disjoint k c)

section Steps
variable (P : Dev nD → FVec F S512x768 .f32) (K : Dev nD × CI → ℕ) (k : Fin 5) (c : Dev nD)

/-- A cell whose round is over closes: its counter is zero. -/
theorem close_dma (a : Fin 4) :
    iprop(records P K ∗ atPos ER (dmaCell a k c) (0 + 1) ∅ 0) ⊢ (|={Set.univ}=> semVal (dmaCell a k c) 0 : sProp 𝕄) := by
  iintro ⟨#H, Hat⟩
  iapply (Rounds.cell_close ER (Rd P) (Set.mem_univ (K (c, .inr (a, k)))) (fun h => h) (R := 0 + 1) (duties_later P (dmaCell a k c)))
  isplitr
  · iapply (inv_at P K (c, .inr (a, k))); iexact H
  · iexact Hat

/-- The halving's transfer: the half sent goes to the partner's landing buffer, and with it the right to those rows. -/
theorem rs_send {n : ℕ} (hn : n = half k) {offS offD : Fin 2 → ℕ} (hS : offS = ![sendLo k.val c, 0]) (hD : offD = ![slot k, 0])
    {inbS inbD} {dv : Dev nD} (hdv : dv = par k c) {qS qR : DmaSem sig} (hqS : qS = dsem 0 k) (hqR : qR = dsem 1 k)
    {hsc : (cW n offD inbD : Memref sig (Dev.tc dv : Thread nD τ).2.kind .vmem ⟨2, ![n, 768]⟩ .f32).view.ref.isScScratch = false}
    {hsrc : (aW n offS inbS).view.WordExact} {hdst : (cW n offD inbD).view.WordExact}
    {hsem : DmaTarget.Typed .vmem (.dma qR) (.remote (Dev.tc dv : Thread nD τ) (cW n offD inbD) (.dma qS) hsc)}
    {α : Type} {Q : α → sProp 𝕄} {kt : PUnit → Prog (TpuEff nD τ sig (Elt F) Λ₀ .tc) α}
    (fd : FVec F S496x768 .f32) (W : Waits sig Unit) :
    iprop(records P K ∗ accPts c (sendLo k.val c) (half k) (acc P k.val c) ∗ comPts (par k c) (slot k) (half k) fd
        ∗ owes (c : Thread nD τ) (OR k.val c) W ∗ dutyTok ER (dmaCell 0 k c) 0 0 ∗ dutyTok ER (dmaCell 1 k (par k c)) 0 0)
      ⊢ iprop(((cred (tallyAt (dmaCell 0 k c) () (cr (half k))) ∗ owes (c : Thread nD τ) (OR (k.val + 1) c) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (aW n offS inbS) (.remote (Dev.tc dv : Thread nD τ) (cW n offD inbD) (.dma qS) hsc) (.dma qR) hsrc hdst hsem) kt) Q) := by
  subst hn hdv hqS hqR
  refine BI.Entails.trans ?_ (Rounds.wp_send_landing_pointsTo (defs := defs₀ (F := F)) 𝒱₀ ER (Rd P) (c : Thread nD τ) none
    (c' := (Dev.tc (par k c) : Thread nD τ)) (src := aW (half k) offS inbS) (dst := cW (half k) offD inbD) (hsc := hsc)
    (hsrc := hsrc) (hdst := hdst) (hsem := hsem) (k := kt) (Q := Q) (q := fullShare) (fs := acc P k.val c)
    (κ₁ := K (c, .inr (0, k))) (κ₂ := K (par k c, .inr (1, k))) (r₁ := 0) (r₂ := 0) (d₁ := 0) (d₂ := 0) (fd := fd)
    (by rw [duties_dma]; exact Finset.mem_singleton_self _) (by rw [duties_dma]; exact Finset.mem_singleton_self _)
    () () (cr (half k)) rfl (amount_dma P c 0 k 0) (amount_dma P (par k c) 1 k 0) (OR (k.val + 1) c) (OR_step k c) (W := W)
    (by rw [payload_dma]; exact BI.Entails.refl _)
    (by
      rw [payload_dma, cW_set hD, aW_set hS]
      have h1 := comPts_congr (F := F) (c := par k c) (fun i hi => landed_eq P k c rfl hS hD (inb := inbS) (inb' := inbD) fd i hi)
      unfold comPts at h1
      rw [h1]
      show iprop(comPts (par k c) (slot k) (half k) (landing P k (par k c)) ∗ accPts c (sendLo k.val c) (half k) (acc P k.val c))
        ⊢ iprop(comPts (par k c) (slot k) (half k) (landing P k (par k c)) ∗ ∃ f, accPts (par k (par k c)) (lo (k.val + 1) (par k c)) (half k) f)
      rw [par_par, lo_succ_par]
      iintro ⟨H1, H2⟩
      isplitl [H1]; · iexact H1
      iexists (acc P k.val c); iexact H2))
  rw [cW_set hD, aW_set hS]
  show (_ : sProp 𝕄) ⊢ iprop(cellInv ER (Rd P) (K (c, .inr (0, k))) (dmaCell 0 k c) ∗ cellInv ER (Rd P) (K (par k c, .inr (1, k))) (dmaCell 1 k (par k c))
    ∗ accPts c (sendLo k.val c) (half k) (acc P k.val c) ∗ comPts (par k c) (slot k) (half k) fd ∗ owes (c : Thread nD τ) (OR k.val c) W
    ∗ dutyTok ER (dmaCell 0 k c) 0 0 ∗ reached ER (dmaCell 0 k c) 0 ∗ dutyTok ER (dmaCell 1 k (par k c)) 0 0 ∗ reached ER (dmaCell 1 k (par k c)) 0)
  iintro ⟨#HR, Ha, Hc, HO, Ht1, Ht2⟩
  isplitr; · iapply (inv_at P K (c, .inr (0, k))); iexact HR
  isplitr; · iapply (inv_at P K (par k c, .inr (1, k))); iexact HR
  isplitl [Ha]; · iexact Ha
  isplitl [Hc]; · iexact Hc
  isplitl [HO]; · iexact HO
  isplitl [Ht1]; · iexact Ht1
  isplitr; · iapply (reached_at P K (c, .inr (0, k))); iexact HR
  isplitl [Ht2]; · iexact Ht2
  iapply (reached_at P K (par k c, .inr (1, k))); iexact HR

/-- A wait on one of a device's own DMA cells, everything owed lying above it: the payload, and the cell closed. -/
theorem wait_dma (a : Fin 4) {n : ℕ} (hn : n = half k) {q : DmaSem sig} (hq : q = dsem a k)
    {sp' : Space} {s' : Shape} {src : Memref sig .tc sp' s' .f32} {dst : Memref sig .tc .vmem ⟨2, ![n, 768]⟩ .f32}
    (hcr : dst.view.dmaCredit = cr n) {hsrc : src.view.WordExact} {hdst : dst.view.WordExact}
    {α : Type} {Q : α → sProp 𝕄} {kt : PUnit → Prog (TpuEff nD τ sig (Elt F) Λ₀ .tc) α} (O : CT)
    (b : ℕ) (hb : lv (dmaCell a k c) () ≤ b) (h : ∀ (g : GSem nD τ sig) (u : Unit), 0 < O g u → g.1.2 = .tc ∧ b < lv g u) (W : Waits sig Unit) :
    iprop(records P K ∗ levAts L lv ∗ cred (tallyAt (dmaCell a k c) () (cr (half k))) ∗ owes (c : Thread nD τ) O W ∗ atPos ER (dmaCell a k c) 0 ∅ 0)
      ⊢ iprop(((dmaPay P c k a.val ∗ semVal (dmaCell a k c) 0 ∗ owes (c : Thread nD τ) O (insert (SemLoc.dma (dsem a k), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hn hq
  have hex : 0 + dst.view.dmaCredit = (Rd P).expect ((c : Thread nD τ), .dma (dsem a k)) 0 := by
    rw [Nat.zero_add, hcr]; exact (expect_dma P c a k).symm
  iintro ⟨#HR, #Hlev, Hc, HO, Hat⟩ Hk
  iapply (Rounds.wp_wait_rest_token 𝒱₀ ER (Rd P) (c : Thread nD τ) none (κ := K (c, .inr (a, k)))
      (wpE_waitDma2_eq 𝒱₀ (c : Thread nD τ) none Set.univ) (Set.mem_univ _) () (O := O) (W := W) (R := 0) (m := 0) (T := ∅) hex) $$ [Hc HO Hat]
  · isplitr; · iapply (inv_at P K (c, .inr (a, k))); iexact HR
    isplitl [Hc]; · rw [hcr]; iexact Hc
    isplitl [HO]; · iexact HO
    isplitr; · iapply (mayWait_of c (.dma (dsem a k)) O b hb h); iexact Hlev
    iexact Hat
  iintro ⟨HO, Hat, -, Hpay⟩
  ihave Hp := (Entails.of_eq (rest_dma P c a k)) $$ Hpay
  imod (close_dma P K k c a) $$ [Hat] with Hz
  · isplitr; · iexact HR
    iexact Hat
  iapply Hk
  isplitl [Hp]; · iexact Hp
  isplitl [Hz] <;> iassumption

/-- The gather's transfer: the finished rows go to the same rows of the partner's accumulator. -/
theorem ag_send {n : ℕ} (hn : n = half k) {off : Fin 2 → ℕ} (ho : off = ![lo (k.val + 1) c, 0])
    {inb} {dv : Dev nD} (hdv : dv = par k c) {qS qR : DmaSem sig} (hqS : qS = dsem 2 k) (hqR : qR = dsem 3 k)
    {hsc : (aW n off inb : Memref sig (Dev.tc dv : Thread nD τ).2.kind .vmem ⟨2, ![n, 768]⟩ .f32).view.ref.isScScratch = false}
    {hsrc : (aW n off inb).view.WordExact} {hdst : (aW n off inb).view.WordExact}
    {hsem : DmaTarget.Typed .vmem (.dma qR) (.remote (Dev.tc dv : Thread nD τ) (aW n off inb) (.dma qS) hsc)}
    {α : Type} {Q : α → sProp 𝕄} {kt : PUnit → Prog (TpuEff nD τ sig (Elt F) Λ₀ .tc) α}
    (fd : FVec F S512x768 .f32) (W : Waits sig Unit) :
    iprop(records P K ∗ accPts c (lo (k.val + 1) c) (half k) (gathered P) ∗ accPts (par k c) (lo (k.val + 1) c) (half k) fd
        ∗ owes (c : Thread nD τ) (OG (k.val + 1) c) W ∗ dutyTok ER (dmaCell 2 k c) 0 0 ∗ dutyTok ER (dmaCell 3 k (par k c)) 0 0)
      ⊢ iprop(((cred (tallyAt (dmaCell 2 k c) () (cr (half k))) ∗ owes (c : Thread nD τ) (OG k.val c) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (aW n off inb) (.remote (Dev.tc dv : Thread nD τ) (aW n off inb) (.dma qS) hsc) (.dma qR) hsrc hdst hsem) kt) Q) := by
  subst hn hdv hqS hqR
  refine BI.Entails.trans ?_ (Rounds.wp_send_pointsTo (defs := defs₀ (F := F)) 𝒱₀ ER (Rd P) (c : Thread nD τ) none
    (c' := (Dev.tc (par k c) : Thread nD τ)) (src := aW (half k) off inb) (dst := aW (half k) off inb) (hsc := hsc)
    (hsrc := hsrc) (hdst := hdst) (hsem := hsem) (k := kt) (Q := Q) (q := fullShare) (fs := gathered P)
    (κ₁ := K (c, .inr (2, k))) (κ₂ := K (par k c, .inr (3, k))) (r₁ := 0) (r₂ := 0) (d₁ := 0) (d₂ := 0) (fd := fd)
    (by rw [duties_dma]; exact Finset.mem_singleton_self _) (by rw [duties_dma]; exact Finset.mem_singleton_self _)
    () () (cr (half k)) rfl (amount_dma P c 2 k 0) (amount_dma P (par k c) 3 k 0) (OG k.val c) (OG_succ k c) (W := W)
    (by rw [payload_dma, aW_set ho]; exact BI.Entails.refl _)
    (by
      rw [payload_dma, aW_set ho]
      have h1 := accPts_congr (F := F) (c := par k c) (fun i hi => copied_eq (n := half k) (gathered P) fd ho (inb := inb) i hi)
      unfold accPts at h1
      rw [h1]
      show _ ⊢ accPts (par k c) (sendLo k.val (par k c)) (half k) (gathered P)
      rw [sendLo_par]
      exact BI.Entails.refl _))
  rw [aW_set ho]
  show (_ : sProp 𝕄) ⊢ iprop(cellInv ER (Rd P) (K (c, .inr (2, k))) (dmaCell 2 k c) ∗ cellInv ER (Rd P) (K (par k c, .inr (3, k))) (dmaCell 3 k (par k c))
    ∗ accPts c (lo (k.val + 1) c) (half k) (gathered P) ∗ accPts (par k c) (lo (k.val + 1) c) (half k) fd ∗ owes (c : Thread nD τ) (OG (k.val + 1) c) W
    ∗ dutyTok ER (dmaCell 2 k c) 0 0 ∗ reached ER (dmaCell 2 k c) 0 ∗ dutyTok ER (dmaCell 3 k (par k c)) 0 0 ∗ reached ER (dmaCell 3 k (par k c)) 0)
  iintro ⟨#HR, Ha, Hc, HO, Ht1, Ht2⟩
  isplitr; · iapply (inv_at P K (c, .inr (2, k))); iexact HR
  isplitr; · iapply (inv_at P K (par k c, .inr (3, k))); iexact HR
  isplitl [Ha]; · iexact Ha
  isplitl [Hc]; · iexact Hc
  isplitl [HO]; · iexact HO
  isplitl [Ht1]; · iexact Ht1
  isplitr; · iapply (reached_at P K (c, .inr (2, k))); iexact HR
  isplitl [Ht2]; · iexact Ht2
  iapply (reached_at P K (par k c, .inr (3, k))); iexact HR

/-- What a halving step leaves: the half kept, summed; the partner's rows it was handed; its landing rows; its two cells at zero. -/
def rsOut : sProp 𝕄 :=
  iprop((∃ f, accPts (par k c) (lo (k.val + 1) c) (half k) f) ∗ comPts c (slot k) (half k) (landing P k c)
    ∗ semVal (dmaCell 0 k c) 0 ∗ semVal (dmaCell 1 k c) 0)

/-- A whole step of the halving. -/
theorem rs_step {n : ℕ} (hn : n = half k) {offS offK offD : Fin 2 → ℕ} (hS : offS = ![sendLo k.val c, 0])
    (hK : offK = ![lo (k.val + 1) c, 0]) (hD : offD = ![slot k, 0])
    {inbS inbK inbD} {dv : Dev nD} (hdv : dv = par k c) {qS qR : DmaSem sig} (hqS : qS = dsem 0 k) (hqR : qR = dsem 1 k)
    {pay : FVec F ⟨2, ![n, 768]⟩ .f32 → FVec F ⟨2, ![n, 768]⟩ .f32 → FVec F ⟨2, ![n, 768]⟩ .f32} (hpay : ∀ x y, pay x y = addf x y)
    {hsc : (cW n offD inbD : Memref sig (Dev.tc dv : Thread nD τ).2.kind .vmem ⟨2, ![n, 768]⟩ .f32).view.ref.isScScratch = false}
    {hsrc : (aW n offS inbS).view.WordExact} {hdst : (cW n offD inbD).view.WordExact}
    {hsem : DmaTarget.Typed .vmem (.dma qR) (.remote (Dev.tc dv : Thread nD τ) (cW n offD inbD) (.dma qS) hsc)}
    {h1 h2 h3 h4 l1 l2 l3 hx hm}
    {α : Type} {Q : α → sProp 𝕄} {kt : PUnit → Prog (TpuEff nD τ sig (Elt F) Λ₀ .tc) α} :
    iprop(records P K ∗ levAts L lv ∗ rsIn k c ∗ accPts c (lo k.val c) (512 / 2 ^ k.val) (acc P k.val c) ∗ barPay c k
        ∗ ∃ W, owes (c : Thread nD τ) (OR k.val c) W)
      ⊢ iprop(((accPts c (lo (k.val + 1) c) (half k) (acc P (k.val + 1) c) ∗ rsOut P k c ∗ ∃ W, owes (c : Thread nD τ) (OR (k.val + 1) c) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (aW n offS inbS) (.remote (Dev.tc dv : Thread nD τ) (cW n offD inbD) (.dma qS) hsc) (.dma qR) hsrc hdst hsem) fun _ =>
               .op (.waitDma2 qS (cW n offD inbD) (aW n offS inbS) h1 h2) fun _ =>
               .op (.waitDma2 qR (aW n offS inbS) (cW n offD inbD) h3 h4) fun _ =>
               .op (TpuEff.load (e := .f32) aM (Rect.unit (s := S512x768) offK (⟨2, ![n, 768]⟩ : Shape).size inbK).toLoadRect l1) fun (x : FVec F ⟨2, ![n, 768]⟩ .f32) =>
               .op (TpuEff.load (e := .f32) cM (Rect.unit (s := S496x768) offD (⟨2, ![n, 768]⟩ : Shape).size inbD).toLoadRect l2) fun (y : FVec F ⟨2, ![n, 768]⟩ .f32) =>
               .op (TpuEff.load (e := .f32) aM (Rect.unit (s := S512x768) offK (⟨2, ![n, 768]⟩ : Shape).size inbK).toLoadRect l3) fun _ =>
               .op (.store aM (Rect.unit (s := S512x768) offK (⟨2, ![n, 768]⟩ : Shape).size inbK) (pay x y) Finset.univ hx hm) kt) Q) := by
  subst hn
  iintro ⟨#HR, #Hlev, Hin, Ha, Hb, ⟨%W, HO⟩⟩ Hk
  unfold rsIn barPay
  icases Hin with ⟨HatS, HatR, HtS, HtR, HcR⟩
  icases Hb with ⟨%fd, Hb⟩
  ihave Ha2 := (accPts_halves c k (acc P k.val c)).1 $$ Ha
  icases Ha2 with ⟨Hkeep, Hsend⟩
  iapply (rs_send P K k c rfl hS hD hdv hqS hqR fd W) $$ [Hsend Hb HO HtS HtR]
  · isplitr; · iexact HR
    isplitl [Hsend]; · iexact Hsend
    isplitl [Hb]; · iexact Hb
    isplitl [HO]; · iexact HO
    isplitl [HtS] <;> iassumption
  iintro ⟨HcS, HO⟩
  iapply (wait_dma P K k c 0 rfl hqS rfl (OR (k.val + 1) c) 0 (by rw [lv_dma]; exact Nat.le_refl 0) (above_OR (by omega) (by omega)) W) $$ [HcS HO HatS]
  · isplitr; · iexact HR
    isplitr; · iexact Hlev
    isplitl [HcS]; · iexact HcS
    isplitl [HO] <;> iassumption
  iintro ⟨-, HzS, HO⟩
  iapply (wait_dma P K k c 1 rfl hqR rfl (OR (k.val + 1) c) (2 + k.val) (by rw [lv_dma]; exact le_rfl) (above_OR (by omega) (by omega)) _) $$ [HcR HO HatR]
  · isplitr; · iexact HR
    isplitr; · iexact Hlev
    isplitl [HcR]; · iexact HcR
    isplitl [HO] <;> iassumption
  iintro ⟨Hpay, HzR, HO⟩
  ihave Hp := (show dmaPay P c k (1 : Fin 4).val ⊢ iprop(comPts c (slot k) (half k) (landing P k c) ∗ ∃ f, accPts (par k c) (lo (k.val + 1) c) (half k) f) from BI.Entails.refl _) $$ Hpay
  icases Hp with ⟨Hland, Hpar⟩
  unfold accPts comPts
  iapply (wp_load 𝒱₀ (c : Thread nD τ) none Set.univ (m := aM) (by rw [aM_setOn hK])) $$ Hkeep; iintro Hkeep
  iapply (wp_load 𝒱₀ (c : Thread nD τ) none Set.univ (m := cM) (by rw [cM_setOn hD])) $$ Hland; iintro Hland
  iapply (wp_load 𝒱₀ (c : Thread nD τ) none Set.univ (m := aM) (by rw [aM_setOn hK])) $$ Hkeep; iintro Hkeep
  iapply (wp_store 𝒱₀ (c : Thread nD τ) none Set.univ (m := aM) (Mk := Finset.univ)
    (show (aM.access (Rect.unit (s := S512x768) offK (⟨2, ![half k, 768]⟩ : Shape).size inbK)).setOn Finset.univ ⊆ rows (lo (k.val + 1) c) (half k) by
      rw [View.setOn_univ]; exact (aW_set hK).subset)) $$ Hkeep
  iintro Hkeep
  rw [hpay]
  iapply Hk
  have hadd := accPts_congr (F := F) (c := c) (fun i hi => added_eq P k c rfl hK hD (inb := inbK) (inb' := inbD) (acc P k.val c) _ rfl i hi)
  unfold accPts at hadd
  isplitl [Hkeep]
  · iapply (Entails.of_eq hadd); iexact Hkeep
  unfold rsOut accPts comPts
  isplitr [HO]
  · isplitl [Hpar]; · iexact Hpar
    isplitl [Hland]; · iexact Hland
    isplitl [HzS] <;> iassumption
  iexists _; iexact HO

/-- A whole step of the gather. -/
theorem ag_step {n : ℕ} (hn : n = half k) {off : Fin 2 → ℕ} (ho : off = ![lo (k.val + 1) c, 0])
    {inb} {dv : Dev nD} (hdv : dv = par k c) {qS qR : DmaSem sig} (hqS : qS = dsem 2 k) (hqR : qR = dsem 3 k)
    {hsc : (aW n off inb : Memref sig (Dev.tc dv : Thread nD τ).2.kind .vmem ⟨2, ![n, 768]⟩ .f32).view.ref.isScScratch = false}
    {hsrc : (aW n off inb).view.WordExact} {hdst : (aW n off inb).view.WordExact}
    {hsem : DmaTarget.Typed .vmem (.dma qR) (.remote (Dev.tc dv : Thread nD τ) (aW n off inb) (.dma qS) hsc)}
    {h1 h2 h3 h4}
    {α : Type} {Q : α → sProp 𝕄} {kt : PUnit → Prog (TpuEff nD τ sig (Elt F) Λ₀ .tc) α} :
    iprop(records P K ∗ levAts L lv ∗ agIn k c ∗ accPts c (lo (k.val + 1) c) (half k) (gathered P)
        ∗ (∃ f, accPts (par k c) (lo (k.val + 1) c) (half k) f) ∗ ∃ W, owes (c : Thread nD τ) (OG (k.val + 1) c) W)
      ⊢ iprop(((accPts c (lo k.val c) (512 / 2 ^ k.val) (gathered P) ∗ (semVal (dmaCell 2 k c) 0 ∗ semVal (dmaCell 3 k c) 0)
              ∗ ∃ W, owes (c : Thread nD τ) (OG k.val c) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (aW n off inb) (.remote (Dev.tc dv : Thread nD τ) (aW n off inb) (.dma qS) hsc) (.dma qR) hsrc hdst hsem) fun _ =>
               .op (.waitDma2 qS (aW n off inb) (aW n off inb) h1 h2) fun _ =>
               .op (.waitDma2 qR (aW n off inb) (aW n off inb) h3 h4) kt) Q) := by
  subst hn
  iintro ⟨#HR, #Hlev, Hin, Ha, ⟨%fd, Hb⟩, ⟨%W, HO⟩⟩ Hk
  unfold agIn
  icases Hin with ⟨HatS, HatR, HtS, HtR, HcR⟩
  iapply (ag_send P K k c rfl ho hdv hqS hqR fd W) $$ [Ha Hb HO HtS HtR]
  · isplitr; · iexact HR
    isplitl [Ha]; · iexact Ha
    isplitl [Hb]; · iexact Hb
    isplitl [HO]; · iexact HO
    isplitl [HtS] <;> iassumption
  iintro ⟨HcS, HO⟩
  iapply (wait_dma P K k c 2 rfl hqS rfl (OG k.val c) 0 (by rw [lv_dma]; exact Nat.le_refl 0) (above_OG (by omega)) W) $$ [HcS HO HatS]
  · isplitr; · iexact HR
    isplitr; · iexact Hlev
    isplitl [HcS]; · iexact HcS
    isplitl [HO] <;> iassumption
  iintro ⟨Hpay, HzS, HO⟩
  ihave Ha := (show dmaPay P c k (2 : Fin 4).val ⊢ accPts c (lo (k.val + 1) c) (half k) (gathered P) from BI.Entails.refl _) $$ Hpay
  iapply (wait_dma P K k c 3 rfl hqR rfl (OG k.val c) (11 - k.val) (by rw [lv_dma]; exact le_rfl) (above_OG (by omega)) _) $$ [HcR HO HatR]
  · isplitr; · iexact HR
    isplitr; · iexact Hlev
    isplitl [HcR]; · iexact HcR
    isplitl [HO] <;> iassumption
  iintro ⟨Hpay, HzR, HO⟩
  ihave Hg := (show dmaPay P c k (3 : Fin 4).val ⊢ accPts c (sendLo k.val c) (half k) (gathered P) from BI.Entails.refl _) $$ Hpay
  iapply Hk
  isplitl [Ha Hg]
  · iapply (accPts_halves c k (gathered P)).2
    isplitl [Ha]; · iexact Ha
    iexact Hg
  isplitl [HzS HzR]
  · isplitl [HzS] <;> iassumption
  iexists _; iexact HO

end Steps

end Cert.Halving

end
-- ==== Proof.Body.lean ====
/-
The kernel's body on one device, executed: its partial sums, the handshake, five steps of halving, five of gathering,
and the gathered array as its result.
-/
module

public import proofs.«01_k».proof.Proof.Steps
public import proofs.«01_k».proof.Proof.Gen.KernelIdeal.Points
public import Idealize.ShloMosaic.Lib.Pipeline.Value

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device computes on its own -/

/-- The eight heads' attention of both batches, and its product with the rows of `Wo`, from the three projections. -/
def mix (q k v : FVec F S512x512 .f32) (v30 v33 : FVec F S256x64 .f32) (v36 : FVec F S256x256 .f32) (wo : FVec F S512x768 .f32) : FVec F S512x768 .f32 :=
  k0_pay36
    (k0_pay20 v30 (k0_pay9 v33 v36) (k0_pay10 q k v) (k0_pay11 q k v) (k0_pay14 (k0_pay12 v) (k0_pay13 q k) (Scalar.ofBits .f32 0x3E000000#32))
      (k0_pay15 q k v) (k0_pay16 q k v) (k0_pay17 q) (k0_pay18 k) (k0_pay19 v))
    (k0_pay21 q k v) (k0_pay25 (k0_pay23 q k v) (k0_pay24 q k)) (k0_pay26 q k v) (k0_pay27 q k v)
    (k0_pay31 (k0_pay28 v) (k0_pay29 q k) (k0_pay30 q k)) (k0_pay32 q k v) (k0_pay33 q k v) (k0_pay34 v) (k0_pay35 q k) wo
/-- A device's partial sums: what it computes from `x` and its blocks of the four weights before any exchange. -/
def part (x : FVec F S2x256x768 .f32) (wq : FVec F S768x512 .f32) (wo : FVec F S512x768 .f32) (wk wv : FVec F S768x512 .f32) : FVec F S512x768 .f32 :=
  mix (k0_pay3 x wq) (k0_pay4 x wk) (k0_pay5 x wv) (k0_pay6 x wq wk wv) (k0_pay7 x wv) (k0_pay8 x wq wk) wo

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The contents of device `c`'s argument arrays, as its staging buffers receive them. -/
def xs (c : Dev nD) : (cc0_stg0_0 : Ref sig .tc).ty.Contents (Elt F) := (win0_0.blk (0 : Fin 1)).view.read (Elt F) ((s₀ m ρ).mem ((c : Thread nD τ).loc main_arg0))
def wqs (c : Dev nD) : (cc0_stg1_0 : Ref sig .tc).ty.Contents (Elt F) := (win0_1.blk (0 : Fin 1)).view.read (Elt F) ((s₀ m ρ).mem ((c : Thread nD τ).loc main_arg1))
def wos (c : Dev nD) : (cc0_stg2_0 : Ref sig .tc).ty.Contents (Elt F) := (win0_2.blk (0 : Fin 1)).view.read (Elt F) ((s₀ m ρ).mem ((c : Thread nD τ).loc main_arg4))
def wks (c : Dev nD) : (cc0_stg3_0 : Ref sig .tc).ty.Contents (Elt F) := (win0_3.blk (0 : Fin 1)).view.read (Elt F) ((s₀ m ρ).mem ((c : Thread nD τ).loc main_arg2))
def wvs (c : Dev nD) : (cc0_stg4_0 : Ref sig .tc).ty.Contents (Elt F) := (win0_4.blk (0 : Fin 1)).view.read (Elt F) ((s₀ m ρ).mem ((c : Thread nD τ).loc main_arg3))

/-- All devices' partial sums. -/
def PS (c : Dev nD) : FVec F S512x768 .f32 := part (xs m ρ c) (wqs m ρ c) (wos m ρ c) (wks m ρ c) (wvs m ρ c)
/-- The result. -/
def outAt (c : Dev nD) : (cc0_stg5_0 : Ref sig .tc).ty.Contents (Elt F) := k0_pay1 (gathered (PS m ρ))

/-! ## The ghost state a body starts from -/

abbrev fives (Φ : Fin 5 → sProp 𝕄) : sProp 𝕄 := iprop(Φ 0 ∗ Φ 1 ∗ Φ 2 ∗ Φ 3 ∗ Φ 4)

def barIn (c : Dev nD) : sProp 𝕄 :=
  iprop(atPos ER (barCell c) 0 ∅ 0 ∗ (fives fun d => dutyTok ER (barCell (par d c)) 0 d) ∗ cred (tallyAt (barCell c) () 5))

def ghost (P : Dev nD → FVec F S512x768 .f32) (K : Dev nD × CI → ℕ) (c : Dev nD) : sProp 𝕄 :=
  iprop(records P K ∗ levAts L lv ∗ barIn c ∗ (fives fun k => rsIn k c) ∗ fives fun k => agIn k c)

/-- Everything closed again: the twenty transfer cells and the barrier at zero. -/
def zeros (c : Dev nD) : sProp 𝕄 :=
  iprop((fives fun k => iprop(semVal (dmaCell 0 k c) 0 ∗ semVal (dmaCell 1 k c) 0))
    ∗ (fives fun k => iprop(semVal (dmaCell 2 k c) 0 ∗ semVal (dmaCell 3 k c) 0)) ∗ semVal (barCell c) 0)

def Φ₀ (P : Dev nD → FVec F S512x768 .f32) (c : Dev nD) : sProp 𝕄 :=
  iprop((∃ K, ghost P K c) ∗ (∃ f, accPts c 0 512 f) ∗ ∃ f, comPts c 0 496 f)
def Φ₁ (c : Dev nD) : sProp 𝕄 := iprop((∃ f, accPts c 0 512 f) ∗ (∃ f, comPts c 0 496 f) ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wqs m ρ c
    | ⟨2, _⟩ => wos m ρ c
    | ⟨3, _⟩ => wks m ρ c
    | ⟨4, _⟩ => wvs m ρ c
    | ⟨5, _⟩ => outAt m ρ c
  Φ t := match t with
    | ⟨0, _⟩ => Φ₀ (PS m ρ) c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The landing buffer's five slots -/

omit [FloatOps F] in
theorem comPts_add (c : Dev nD) (a n n' : ℕ) (f : FVec F S496x768 .f32) :
    (comPts c a (n + n') f : sProp 𝕄) ⊢ iprop(comPts c a n f ∗ comPts c (a + n) n' f) := by
  unfold comPts; rw [rows_add]; exact (pointsTo_union (rows_disjoint (.inl le_rfl))).1
omit [FloatOps F] in
theorem comPts_glue (c : Dev nD) (a n n' : ℕ) :
    iprop((∃ f, comPts c a n f) ∗ ∃ f, comPts c (a + n) n' f) ⊢ (∃ f, comPts c a (n + n') f : sProp 𝕄) := by
  unfold comPts; rw [rows_add]
  iintro ⟨⟨%f, H1⟩, ⟨%g, H2⟩⟩
  iexists _
  iapply (pointsTo_join (rows_disjoint (.inl le_rfl)))
  isplitl [H1]; · iexact H1
  iexact H2

omit [FloatOps F] in
theorem slots_split (c : Dev nD) (f : FVec F S496x768 .f32) :
    (comPts c 0 496 f : sProp 𝕄) ⊢ fives fun k => iprop(∃ f, comPts c (slot k) (half k) f) := by
  iintro H
  ihave H := (comPts_add c 0 256 240 f) $$ H
  icases H with ⟨H0, H⟩
  ihave H := (comPts_add c 256 128 112 f) $$ H
  icases H with ⟨H1, H⟩
  ihave H := (comPts_add c 384 64 48 f) $$ H
  icases H with ⟨H2, H⟩
  ihave H := (comPts_add c 448 32 16 f) $$ H
  icases H with ⟨H3, H4⟩
  isplitl [H0]; · iexists f; iexact H0
  isplitl [H1]; · iexists f; iexact H1
  isplitl [H2]; · iexists f; iexact H2
  isplitl [H3]; · iexists f; iexact H3
  iexists f; iexact H4
omit [FloatOps F] in
theorem slots_join (c : Dev nD) :
    (fives fun k => iprop(∃ f, comPts c (slot k) (half k) f)) ⊢ (∃ f, comPts c 0 496 f : sProp 𝕄) := by
  iintro ⟨H0, H1, H2, H3, H4⟩
  iapply (comPts_glue c 0 256 240)
  isplitl [H0]; · iexact H0
  iapply (comPts_glue c 256 128 112)
  isplitl [H1]; · iexact H1
  iapply (comPts_glue c 384 64 48)
  isplitl [H2]; · iexact H2
  iapply (comPts_glue c 448 32 16)
  isplitl [H3]; · iexact H3
  iexact H4

/-! ## The handshake -/

section Handshake
variable (P : Dev nD → FVec F S512x768 .f32) (K : Dev nD × CI → ℕ) (c : Dev nD)

/-- A signal of the handshake: the partner of step `d` is handed the rows of this device's landing buffer for that step. -/
theorem bar_signal (d : Fin 5) {dv : Dev nD} (hdv : dv = par d c) {n : ℕ} (hn : 1 = n) (W : Waits sig Unit)
    {α : Type} {Q : α → sProp 𝕄} {kt : PUnit → Prog (TpuEff nD τ sig (Elt F) Λ₀ .tc) α} :
    iprop(records P K ∗ owes (c : Thread nD τ) (OB d.val c) W ∗ dutyTok ER (barCell (par d c)) 0 d ∗ ∃ f, comPts c (slot d) (half d) f)
      ⊢ iprop((owes (c : Thread nD τ) (OB (d.val + 1) c) W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (dv : Thread nD τ) barS n) kt) Q) := by
  subst hdv hn
  refine BI.Entails.trans ?_ (Rounds.wp_signal (defs := defs₀ (F := F)) 𝒱₀ ER (Rd P) (c : Thread nD τ) none (dst := (par d c : Thread nD τ))
    (κ := K (par d c, .inl ())) (r := 0) (d := d) (k := kt) (Q := Q) (W := W) (k' := 1) (O₀ := OB d.val c)
    (by rw [duties_bar]; exact Finset.mem_univ _) (amount_bar P (par d c) d) () (OB (d.val + 1) c) (OB_step d c))
  show (_ : sProp 𝕄) ⊢ iprop(cellInv ER (Rd P) (K (par d c, .inl ())) (barCell (par d c)) ∗ owes (c : Thread nD τ) (OB d.val c) W
    ∗ dutyTok ER (barCell (par d c)) 0 d ∗ barPay (par d c) d ∗ reached ER (barCell (par d c)) 0)
  iintro ⟨#HR, HO, Ht, Hf⟩
  isplitr; · iapply (inv_at P K (par d c, .inl ())); iexact HR
  isplitl [HO]; · iexact HO
  isplitl [Ht]; · iexact Ht
  isplitl [Hf]
  · unfold barPay; rw [par_par]; iexact Hf
  iapply (reached_at P K (par d c, .inl ())); iexact HR

/-- The handshake's wait: the five partners' rows, and the barrier's cell closed. -/
theorem bar_wait {n : ℕ} (hn : n = 5) (W : Waits sig Unit)
    {α : Type} {Q : α → sProp 𝕄} {kt : PUnit → Prog (TpuEff nD τ sig (Elt F) Λ₀ .tc) α} :
    iprop(records P K ∗ levAts L lv ∗ cred (tallyAt (barCell c) () 5) ∗ owes (c : Thread nD τ) (OR 0 c) W ∗ atPos ER (barCell c) 0 ∅ 0)
      ⊢ iprop((((fives fun d => barPay c d) ∗ semVal (barCell c) 0 ∗ ∃ W, owes (c : Thread nD τ) (OR 0 c) W)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS n) kt) Q) := by
  subst hn
  iintro ⟨#HR, #Hlev, Hc, HO, Hat⟩ Hk
  iapply (Rounds.wp_wait_rest_token 𝒱₀ ER (Rd P) (c : Thread nD τ) none (κ := K (c, .inl ()))
      (wpE_semWait_eq 𝒱₀ (c : Thread nD τ) none Set.univ) (Set.mem_univ _) () (O := OR 0 c) (W := W) (R := 0) (m := 0) (T := ∅)
      (by rw [expect_bar])) $$ [Hc HO Hat]
  · isplitr; · iapply (inv_at P K (c, .inl ())); iexact HR
    isplitl [Hc]; · iexact Hc
    isplitl [HO]; · iexact HO
    isplitr; · iapply (mayWait_of c (.reg barS) (OR 0 c) 1 (by rw [lv_bar]) (above_OR (by omega) (by omega))); iexact Hlev
    iexact Hat
  iintro ⟨HO, Hat, -, Hpay⟩
  ihave Hp := (Entails.of_eq (rest_bar P c)) $$ Hpay
  imod (Rounds.cell_close ER (Rd P) (Set.mem_univ (K (c, .inl ()))) (fun h => h) (R := 0 + 1) (duties_later P (barCell c))) $$ [Hat] with Hz
  · isplitr; · iapply (inv_at P K (c, .inl ())); iexact HR
    iexact Hat
  iapply Hk
  isplitl [Hp]; · iexact Hp
  isplitl [Hz]; · iexact Hz
  iexists _; iexact HO

end Handshake

/-! ## The body -/

theorem z2 : (![0, 0] : Fin 2 → ℕ) = fun _ => 0 := funext fun a => by fin_cases a <;> rfl
theorem z3 : (![0, 0, 0] : Fin 3 → ℕ) = fun _ => 0 := funext fun a => by fin_cases a <;> rfl

theorem pay37_eq (x y : FVec F S256x768 .f32) : k0_pay37 x y = addf x y := by unfold k0_pay37; exact shapeCast_self _ _
theorem pay38_eq (x y : FVec F S128x768 .f32) : k0_pay38 x y = addf x y := by unfold k0_pay38; exact shapeCast_self _ _
theorem pay39_eq (x y : FVec F S64x768 .f32) : k0_pay39 x y = addf x y := by unfold k0_pay39; exact shapeCast_self _ _
theorem pay40_eq (x y : FVec F S32x768 .f32) : k0_pay40 x y = addf x y := by unfold k0_pay40; exact shapeCast_self _ _
theorem pay42_eq (x y : FVec F S16x768 .f32) : k0_pay42 (k0_pay41 x y) = addf x y := by unfold k0_pay42 k0_pay41; exact shapeCast_self _ _

omit [FloatOps F] in
/-- The whole accumulator is all its rows. -/
theorem acc_whole (c : Dev nD) (f : FVec F S512x768 .f32) :
    (((c : Thread nD τ).loc cc0_scratch0) ↦{fullShare} f : sProp 𝕄) = accPts c 0 512 f := by
  unfold accPts; rw [rows_all]

/-- A load that reads `w`, everything of its buffer held. -/
theorem load_eq (c : Dev nD) {s : Shape} {e : EltTy} (a : Memref sig .tc .vmem s e) {r : LoadRect s} {hl} {f : Buf (Elt F) (a.view.loc (c : Thread nD τ))}
    {w : r.shape.Idx → Elt F e} (hw : a.view.readAt (Elt F) r f = w)
    {α : Type} {Q : α → sProp 𝕄} {kt : (r.shape.Idx → Elt F e) → Prog (TpuEff nD τ sig (Elt F) Λ₀ .tc) α} :
    ((a.view.loc (c : Thread nD τ)) ↦{fullShare} f : sProp 𝕄)
      ⊢ iprop((((a.view.loc (c : Thread nD τ)) ↦{fullShare} f) -∗ wp frame (wpE (defs₀ (F := F)) 𝒱₀ (c : Thread nD τ) none) Set.univ (kt w) Q)
          -∗ wp frame (wpE (defs₀ (F := F)) 𝒱₀ (c : Thread nD τ) none) Set.univ (.op (.load a r hl) kt) Q) := by
  subst hw
  exact wp_load 𝒱₀ (c : Thread nD τ) none Set.univ (m := a) (Finset.subset_univ _)

/-- A store that leaves `w`, everything of its buffer held. -/
theorem store_eq (c : Dev nD) {s : Shape} {e : EltTy} (a : Memref sig .tc .vmem s e) {r : Rect s} {x : r.shape.Idx → Elt F e} {hx hm}
    {f w : Buf (Elt F) ((a.access r).loc (c : Thread nD τ))} (hw : (a.access r).write (Elt F) f x Finset.univ = w)
    {α : Type} {Q : α → sProp 𝕄} {kt : PUnit → Prog (TpuEff nD τ sig (Elt F) Λ₀ .tc) α} :
    (((a.access r).loc (c : Thread nD τ)) ↦{fullShare} f : sProp 𝕄)
      ⊢ iprop(((((a.access r).loc (c : Thread nD τ)) ↦{fullShare} w) -∗ wp frame (wpE (defs₀ (F := F)) 𝒱₀ (c : Thread nD τ) none) Set.univ (kt ⟨⟩) Q)
          -∗ wp frame (wpE (defs₀ (F := F)) 𝒱₀ (c : Thread nD τ) none) Set.univ (.op (.store a r x Finset.univ hx hm) kt) Q) := by
  subst hw
  exact wp_store 𝒱₀ (c : Thread nD τ) none Set.univ (m := a) (Mk := Finset.univ) (Finset.subset_univ _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ (PS m ρ) c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xs m ρ c) ∗ stg c cc0_stg1_0 (wqs m ρ c)
    ∗ stg c cc0_stg2_0 (wos m ρ c) ∗ stg c cc0_stg3_0 (wks m ρ c) ∗ stg c cc0_stg4_0 (wvs m ρ c) ∗ stg c cc0_stg5_0 (outAt m ρ c))

set_option maxRecDepth 65536 in
set_option maxHeartbeats 4000000 in
/-- The body, executed from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre Φ₀ ghost barIn fives
  iintro ⟨⟨⟨⟨%K, #HR, #Hlev, ⟨HatB, ⟨HtB0, HtB1, HtB2, HtB3, HtB4⟩, HcB⟩, ⟨Hr0, Hr1, Hr2, Hr3, Hr4⟩, ⟨Hg0, Hg1, Hg2, Hg3, Hg4⟩⟩, ⟨%fa, Hacc⟩, ⟨%fc, Hcom⟩⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xs m ρ c := by rw [hg0]; unfold Dat.before; rw [if_pos (fetch0_0 t₀)]; rfl
  have h1 : g1 = wqs m ρ c := by rw [hg1]; unfold Dat.before; rw [if_pos (fetch0_1 t₀)]; rfl
  have h2 : g2 = wos m ρ c := by rw [hg2]; unfold Dat.before; rw [if_pos (fetch0_2 t₀)]; rfl
  have h3 : g3 = wks m ρ c := by rw [hg3]; unfold Dat.before; rw [if_pos (fetch0_3 t₀)]; rfl
  have h4 : g4 = wvs m ρ c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = OB (0 : Fin 5).val c from rfl]
  -- the operands, and the partial sums into the accumulator
  iapply (load_eq c (Memref.whole cc0_stg0_0) (Memref.readAt_unit_zero (Elt F) cc0_stg0_0 z3 _ _)) $$ H0; iintro H0
  iapply (load_eq c (Memref.whole cc0_stg1_0) (Memref.readAt_unit_zero (Elt F) cc0_stg1_0 z2 _ _)) $$ H1; iintro H1
  iapply (load_eq c (Memref.whole cc0_stg3_0) (Memref.readAt_unit_zero (Elt F) cc0_stg3_0 z2 _ _)) $$ H3; iintro H3
  iapply (load_eq c (Memref.whole cc0_stg4_0) (Memref.readAt_unit_zero (Elt F) cc0_stg4_0 z2 _ _)) $$ H4; iintro H4
  iapply (load_eq c (Memref.whole cc0_stg2_0) (Memref.readAt_unit_zero (Elt F) cc0_stg2_0 z2 _ _)) $$ H2; iintro H2
  ihave Hacc := (Entails.of_eq (acc_whole c fa).symm) $$ Hacc
  iapply (load_eq c (Memref.whole cc0_scratch0) (Memref.readAt_unit_zero (Elt F) cc0_scratch0 z2 _ _)) $$ Hacc; iintro Hacc
  iapply (store_eq c (Memref.whole cc0_scratch0) (r := Rect.unit (s := S512x768) ![0, 0] S512x768.size inb_S512x768_S512x768_0_0) (x := PS m ρ c) (w := PS m ρ c)
    (Memref.write_access_unit_zero_univ (Elt F) cc0_scratch0 z2 _ _ _)) $$ Hacc; iintro Hacc
  ihave Hacc := (show (((Memref.whole cc0_scratch0).access (Rect.unit (s := S512x768) ![0, 0] S512x768.size inb_S512x768_S512x768_0_0)).loc (c : Thread nD τ) ↦{fullShare} (PS m ρ c) : sProp 𝕄)
      ⊢ accPts c (lo (0 : Fin 5).val c) (512 / 2 ^ (0 : Fin 5).val) (acc (PS m ρ) (0 : Fin 5).val c)
    from Entails.of_eq (acc_whole c (PS m ρ c))) $$ Hacc
  ihave Hcom := (slots_split c fc) $$ Hcom
  icases Hcom with ⟨Hs0, Hs1, Hs2, Hs3, Hs4⟩
  -- the handshake
  iapply (bar_signal (n := 1) (PS m ρ) K c 0 (dev1_eq c) rfl W) $$ [HO HtB0 Hs0]
  · isplitr; · iexact HR
    isplitl [HO]; · iexact HO
    isplitl [HtB0]; · iexact HtB0
    iexact Hs0
  iintro HO
  iapply (bar_signal (n := 1) (PS m ρ) K c 1 (dev2_eq c) rfl W) $$ [HO HtB1 Hs1]
  · isplitr; · iexact HR
    isplitl [HO]; · iexact HO
    isplitl [HtB1]; · iexact HtB1
    iexact Hs1
  iintro HO
  iapply (bar_signal (n := 1) (PS m ρ) K c 2 (dev3_eq c) rfl W) $$ [HO HtB2 Hs2]
  · isplitr; · iexact HR
    isplitl [HO]; · iexact HO
    isplitl [HtB2]; · iexact HtB2
    iexact Hs2
  iintro HO
  iapply (bar_signal (n := 1) (PS m ρ) K c 3 (dev4_eq c) rfl W) $$ [HO HtB3 Hs3]
  · isplitr; · iexact HR
    isplitl [HO]; · iexact HO
    isplitl [HtB3]; · iexact HtB3
    iexact Hs3
  iintro HO
  iapply (bar_signal (n := 1) (PS m ρ) K c 4 (dev5_eq c) rfl W) $$ [HO HtB4 Hs4]
  · isplitr; · iexact HR
    isplitl [HO]; · iexact HO
    isplitl [HtB4]; · iexact HtB4
    iexact Hs4
  iintro HO
  ihave HO := (show (owes (c : Thread nD τ) (OB ((4 : Fin 5).val + 1) c) W : sProp 𝕄) ⊢ owes (c : Thread nD τ) (OR 0 c) W
    from Entails.of_eq (by rw [← OB_five c]; rfl)) $$ HO
  iapply (bar_wait (n := 5) (PS m ρ) K c rfl W) $$ [HcB HO HatB]
  · isplitr; · iexact HR
    isplitr; · iexact Hlev
    isplitl [HcB]; · iexact HcB
    isplitl [HO] <;> iassumption
  iintro ⟨⟨Hb0, Hb1, Hb2, Hb3, Hb4⟩, HzB, HO⟩
  -- the halving
  iapply (rs_step (PS m ρ) K 0 c rfl (off1_eq c) (off2_eq c) rfl (dev6_eq c) rfl rfl (pay := k0_pay37) pay37_eq) $$ [Hr0 Hacc Hb0 HO]
  · isplitr; · iexact HR
    isplitr; · iexact Hlev
    isplitl [Hr0]; · iexact Hr0
    isplitl [Hacc]; · iexact Hacc
    isplitl [Hb0]; · iexact Hb0
    iexact HO
  iintro ⟨Hacc, Hout0, HO⟩
  ihave Hacc := (show accPts c (lo (((0 : Fin 5) : ℕ) + 1) c) (half 0) (acc (PS m ρ) (((0 : Fin 5) : ℕ) + 1) c)
    ⊢ accPts c (lo ((1 : Fin 5) : ℕ) c) (512 / 2 ^ ((1 : Fin 5) : ℕ)) (acc (PS m ρ) ((1 : Fin 5) : ℕ) c) from BI.Entails.refl _) $$ Hacc
  iapply (rs_step (PS m ρ) K 1 c rfl (off3_eq c) (off4_eq c) rfl (dev7_eq c) rfl rfl (pay := k0_pay38) pay38_eq) $$ [Hr1 Hacc Hb1 HO]
  · isplitr; · iexact HR
    isplitr; · iexact Hlev
    isplitl [Hr1]; · iexact Hr1
    isplitl [Hacc]; · iexact Hacc
    isplitl [Hb1]; · iexact Hb1
    iexact HO
  iintro ⟨Hacc, Hout1, HO⟩
  ihave Hacc := (show accPts c (lo (((1 : Fin 5) : ℕ) + 1) c) (half 1) (acc (PS m ρ) (((1 : Fin 5) : ℕ) + 1) c)
    ⊢ accPts c (lo ((2 : Fin 5) : ℕ) c) (512 / 2 ^ ((2 : Fin 5) : ℕ)) (acc (PS m ρ) ((2 : Fin 5) : ℕ) c) from BI.Entails.refl _) $$ Hacc
  iapply (rs_step (PS m ρ) K 2 c rfl (off5_eq c) (off6_eq c) rfl (dev8_eq c) rfl rfl (pay := k0_pay39) pay39_eq) $$ [Hr2 Hacc Hb2 HO]
  · isplitr; · iexact HR
    isplitr; · iexact Hlev
    isplitl [Hr2]; · iexact Hr2
    isplitl [Hacc]; · iexact Hacc
    isplitl [Hb2]; · iexact Hb2
    iexact HO
  iintro ⟨Hacc, Hout2, HO⟩
  ihave Hacc := (show accPts c (lo (((2 : Fin 5) : ℕ) + 1) c) (half 2) (acc (PS m ρ) (((2 : Fin 5) : ℕ) + 1) c)
    ⊢ accPts c (lo ((3 : Fin 5) : ℕ) c) (512 / 2 ^ ((3 : Fin 5) : ℕ)) (acc (PS m ρ) ((3 : Fin 5) : ℕ) c) from BI.Entails.refl _) $$ Hacc
  iapply (rs_step (PS m ρ) K 3 c rfl (off7_eq c) (off8_eq c) rfl (dev9_eq c) rfl rfl (pay := k0_pay40) pay40_eq) $$ [Hr3 Hacc Hb3 HO]
  · isplitr; · iexact HR
    isplitr; · iexact Hlev
    isplitl [Hr3]; · iexact Hr3
    isplitl [Hacc]; · iexact Hacc
    isplitl [Hb3]; · iexact Hb3
    iexact HO
  iintro ⟨Hacc, Hout3, HO⟩
  ihave Hacc := (show accPts c (lo (((3 : Fin 5) : ℕ) + 1) c) (half 3) (acc (PS m ρ) (((3 : Fin 5) : ℕ) + 1) c)
    ⊢ accPts c (lo ((4 : Fin 5) : ℕ) c) (512 / 2 ^ ((4 : Fin 5) : ℕ)) (acc (PS m ρ) ((4 : Fin 5) : ℕ) c) from BI.Entails.refl _) $$ Hacc
  iapply (rs_step (PS m ρ) K 4 c rfl (off9_eq c) (off10_eq c) rfl (dev10_eq c) rfl rfl (pay := fun x y => k0_pay42 (k0_pay41 x y)) pay42_eq) $$ [Hr4 Hacc Hb4 HO]
  · isplitr; · iexact HR
    isplitr; · iexact Hlev
    isplitl [Hr4]; · iexact Hr4
    isplitl [Hacc]; · iexact Hacc
    isplitl [Hb4]; · iexact Hb4
    iexact HO
  iintro ⟨Hacc, Hout4, HO⟩
  ihave Hacc := (show accPts c (lo (((4 : Fin 5) : ℕ) + 1) c) (half 4) (acc (PS m ρ) (((4 : Fin 5) : ℕ) + 1) c)
      ⊢ accPts c (lo (((4 : Fin 5) : ℕ) + 1) c) (half 4) (gathered (PS m ρ))
    from Entails.of_eq (accPts_congr fun i hi => (gathered_eq (PS m ρ) c i hi).symm)) $$ Hacc
  ihave HO := (show (∃ W, owes (c : Thread nD τ) (OR (((4 : Fin 5) : ℕ) + 1) c) W : sProp 𝕄) ⊢ ∃ W, owes (c : Thread nD τ) (OG (((4 : Fin 5) : ℕ) + 1) c) W
    from Entails.of_eq (by rw [show (((4 : Fin 5) : ℕ) + 1) = 5 from rfl, OR_five])) $$ HO
  unfold rsOut
  icases Hout0 with ⟨Hp0, Hl0, HzS0, HzR0⟩
  icases Hout1 with ⟨Hp1, Hl1, HzS1, HzR1⟩
  icases Hout2 with ⟨Hp2, Hl2, HzS2, HzR2⟩
  icases Hout3 with ⟨Hp3, Hl3, HzS3, HzR3⟩
  icases Hout4 with ⟨Hp4, Hl4, HzS4, HzR4⟩
  -- the gather
  iapply (ag_step (PS m ρ) K 4 c rfl (off11_eq c) (dev11_eq c) rfl rfl) $$ [Hg4 Hacc Hp4 HO]
  · isplitr; · iexact HR
    isplitr; · iexact Hlev
    isplitl [Hg4]; · iexact Hg4
    isplitl [Hacc]; · iexact Hacc
    isplitl [Hp4]; · iexact Hp4
    iexact HO
  iintro ⟨Hacc, Hq4, HO⟩
  ihave Hacc := (show accPts c (lo ((4 : Fin 5) : ℕ) c) (512 / 2 ^ ((4 : Fin 5) : ℕ)) (gathered (PS m ρ))
    ⊢ accPts c (lo (((3 : Fin 5) : ℕ) + 1) c) (half 3) (gathered (PS m ρ)) from BI.Entails.refl _) $$ Hacc
  iapply (ag_step (PS m ρ) K 3 c rfl (off12_eq c) (dev12_eq c) rfl rfl) $$ [Hg3 Hacc Hp3 HO]
  · isplitr; · iexact HR
    isplitr; · iexact Hlev
    isplitl [Hg3]; · iexact Hg3
    isplitl [Hacc]; · iexact Hacc
    isplitl [Hp3]; · iexact Hp3
    iexact HO
  iintro ⟨Hacc, Hq3, HO⟩
  ihave Hacc := (show accPts c (lo ((3 : Fin 5) : ℕ) c) (512 / 2 ^ ((3 : Fin 5) : ℕ)) (gathered (PS m ρ))
    ⊢ accPts c (lo (((2 : Fin 5) : ℕ) + 1) c) (half 2) (gathered (PS m ρ)) from BI.Entails.refl _) $$ Hacc
  iapply (ag_step (PS m ρ) K 2 c rfl (off13_eq c) (dev13_eq c) rfl rfl) $$ [Hg2 Hacc Hp2 HO]
  · isplitr; · iexact HR
    isplitr; · iexact Hlev
    isplitl [Hg2]; · iexact Hg2
    isplitl [Hacc]; · iexact Hacc
    isplitl [Hp2]; · iexact Hp2
    iexact HO
  iintro ⟨Hacc, Hq2, HO⟩
  ihave Hacc := (show accPts c (lo ((2 : Fin 5) : ℕ) c) (512 / 2 ^ ((2 : Fin 5) : ℕ)) (gathered (PS m ρ))
    ⊢ accPts c (lo (((1 : Fin 5) : ℕ) + 1) c) (half 1) (gathered (PS m ρ)) from BI.Entails.refl _) $$ Hacc
  iapply (ag_step (PS m ρ) K 1 c rfl (off14_eq c) (dev14_eq c) rfl rfl) $$ [Hg1 Hacc Hp1 HO]
  · isplitr; · iexact HR
    isplitr; · iexact Hlev
    isplitl [Hg1]; · iexact Hg1
    isplitl [Hacc]; · iexact Hacc
    isplitl [Hp1]; · iexact Hp1
    iexact HO
  iintro ⟨Hacc, Hq1, HO⟩
  ihave Hacc := (show accPts c (lo ((1 : Fin 5) : ℕ) c) (512 / 2 ^ ((1 : Fin 5) : ℕ)) (gathered (PS m ρ))
    ⊢ accPts c (lo (((0 : Fin 5) : ℕ) + 1) c) (half 0) (gathered (PS m ρ)) from BI.Entails.refl _) $$ Hacc
  iapply (ag_step (PS m ρ) K 0 c rfl (off15_eq c) (dev15_eq c) rfl rfl) $$ [Hg0 Hacc Hp0 HO]
  · isplitr; · iexact HR
    isplitr; · iexact Hlev
    isplitl [Hg0]; · iexact Hg0
    isplitl [Hacc]; · iexact Hacc
    isplitl [Hp0]; · iexact Hp0
    iexact HO
  iintro ⟨Hacc, Hq0, HO⟩
  -- the result
  ihave Hacc := (show accPts c (lo ((0 : Fin 5) : ℕ) c) (512 / 2 ^ ((0 : Fin 5) : ℕ)) (gathered (PS m ρ))
      ⊢ ((Memref.whole cc0_scratch0).view.loc (c : Thread nD τ) ↦{fullShare} (gathered (PS m ρ)))
    from Entails.of_eq (acc_whole c (gathered (PS m ρ))).symm) $$ Hacc
  iapply (load_eq c (Memref.whole cc0_scratch0) (Memref.readAt_unit_zero (Elt F) cc0_scratch0 z2 _ _)) $$ Hacc; iintro Hacc
  iapply (load_eq c (Memref.whole cc0_stg5_0) (Memref.readAt_unit_zero (Elt F) cc0_stg5_0 z3 _ _)) $$ H5; iintro H5
  iapply (store_eq c (Memref.whole cc0_stg5_0) (r := Rect.unit (s := S2x256x768) ![0, 0, 0] S2x256x768.size inb_S2x256x768_S2x256x768_0_0_0)
    (x := outAt m ρ c) (w := outAt m ρ c) (Memref.write_access_unit_zero_univ (Elt F) cc0_stg5_0 z3 _ _ _)) $$ H5; iintro H5
  rw [wp_ret]; imodintro
  iapply Hk
  unfold bodyPost Φ₁ zeros fives Dat.owesAt Pipeline.owesWithin
  isplitl [Hacc Hl0 Hl1 Hl2 Hl3 Hl4 HzS0 HzS1 HzS2 HzS3 HzS4 HzR0 HzR1 HzR2 HzR3 HzR4 Hq0 Hq1 Hq2 Hq3 Hq4 HzB]
  · isplitl [Hacc]
    · iexists (gathered (PS m ρ))
      iapply (Entails.of_eq (acc_whole c (gathered (PS m ρ)))); iexact Hacc
    isplitl [Hl0 Hl1 Hl2 Hl3 Hl4]
    · iapply (slots_join c); unfold fives
      isplitl [Hl0]; · iexists _; iexact Hl0
      isplitl [Hl1]; · iexists _; iexact Hl1
      isplitl [Hl2]; · iexists _; iexact Hl2
      isplitl [Hl3]; · iexists _; iexact Hl3
      iexists _; iexact Hl4
    isplitl [HzS0 HzS1 HzS2 HzS3 HzS4 HzR0 HzR1 HzR2 HzR3 HzR4]
    · isplitl [HzS0 HzR0]; · isplitl [HzS0] <;> iassumption
      isplitl [HzS1 HzR1]; · isplitl [HzS1] <;> iassumption
      isplitl [HzS2 HzR2]; · isplitl [HzS2] <;> iassumption
      isplitl [HzS3 HzR3]; · isplitl [HzS3] <;> iassumption
      isplitl [HzS4] <;> iassumption
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    iexact HzB
  isplitl [HO]
  · icases HO with ⟨%W', HO⟩
    iexists W'
    isplitr; · ipureintro; exact fun _ _ => Or.inl trivial
    rw [show (dats m ρ 0 c).owed t₀.succ = 0 from rfl]
    iapply (show (owes (c : Thread nD τ) (OG ((0 : Fin 5) : ℕ) c) W' : sProp 𝕄) ⊢ owes (c : Thread nD τ) 0 W' from Entails.of_eq (by rw [show ((0 : Fin 5) : ℕ) = 0 from rfl, OG_zero]))
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) (fun _ => bodyPost m ρ c)
  iintro H
  iapply (sound_body m ρ c fun _ => bodyPost m ρ c)
  isplitl [H]; · iexact H
  iintro H; iexact H

end Cert.Halving

end
-- ==== Proof.Launch.lean ====
/-
The launch: every cell allocated, every duty's token dealt to the device that pays it, every credit counted; and the
run of the whole program.
-/
module

public import proofs.«01_k».proof.Proof.Body
public import Idealize.ShloMosaic.Lib.Pipeline.CollectiveSegs

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties, indexed -/

/-- The kernel's own semaphores: the twenty of the transfers. -/
abbrev osem : Fin 20 → SemLoc sig := fun i => .dma ⟨6 + i.val, by show 6 + i.val < 26; omega⟩
theorem ownSemFacts : Pipeline.OwnSemFacts cfg0.spec osem := by decide +kernel
theorem share_eq (c : Dev nD) (w : Fin cfg0.W) : (dats m ρ 0 c).share w = fullShare := by unfold Dat.share; split <;> rfl

theorem csem_injective : Function.Injective csem := by
  rintro (⟨⟩ | ⟨a, k⟩) (⟨⟩ | ⟨a', k'⟩) h
  · rfl
  · exact absurd h (by simp [csem])
  · exact absurd h (by simp [csem])
  · obtain ⟨rfl, rfl⟩ := dsem_inj a k a' k' (SemLoc.dma.inj h); rfl
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]
def theCells : Finset (GSem nD τ sig) := Finset.univ.map ⟨kcell, kcell_injective⟩

/-- The duties of one device's cells: five of its barrier's, one of each transfer cell's. -/
abbrev TI : Type := Fin 5 ⊕ (Fin 4 × Fin 5)
abbrev tokOf (ct : Dev nD × TI) : GSem nD τ sig × ℕ × Fin 5 :=
  match ct.2 with
  | .inl d => (barCell ct.1, 0, d)
  | .inr ak => (dmaCell ak.1 ak.2 ct.1, 0, 0)
theorem tokOf_injective : Function.Injective (tokOf : Dev nD × TI → GSem nD τ sig × ℕ × Fin 5) := by
  rintro ⟨c, t⟩ ⟨c', t'⟩ h
  have h1 : c = c' := by
    have := congrArg (fun x : GSem nD τ sig × ℕ × Fin 5 => x.1.1.1) h
    rcases t with d | ⟨a, k⟩ <;> rcases t' with d' | ⟨a', k'⟩ <;> exact this
  subst h1
  have h2 := congrArg (fun x : GSem nD τ sig × ℕ × Fin 5 => x.1.2) h
  have h3 := congrArg (fun x : GSem nD τ sig × ℕ × Fin 5 => x.2.2) h
  rcases t with d | ⟨a, k⟩ <;> rcases t' with d' | ⟨a', k'⟩
  · exact congrArg (fun d => (c, Sum.inl d)) h3
  · exact absurd h2 (by simp)
  · exact absurd h2 (by simp)
  · obtain ⟨rfl, rfl⟩ := dsem_inj a k a' k' (SemLoc.dma.inj h2); rfl
def theToks : Finset (GSem nD τ sig × ℕ × Fin 5) := Finset.univ.map ⟨tokOf, tokOf_injective⟩

def u₀ : UU :=
  (initOf (Pipeline.cells cfgs cellOf_inj) (Pipeline.launchToks cfgs cellOf_inj), initOf theCells theToks)

/-- Whose duty it is: the partner's for the barrier and the receive cells, the device's own for the sent cells. -/
def payer (t : TI) (c : Dev nD) : Dev nD :=
  match t with
  | .inl d => par d c
  | .inr (a, k) => if a.val % 2 = 1 then par k c else c
theorem payer_payer (t : TI) (c : Dev nD) : payer t (payer t c) = c := by
  rcases t with d | ⟨a, k⟩
  · exact par_par d c
  · unfold payer; by_cases h : a.val % 2 = 1
    · simp only [h, if_true]; exact par_par k c
    · simp only [h, if_false]
def around : Dev nD × TI ≃ Dev nD × TI where
  toFun ct := (payer ct.2 ct.1, ct.2)
  invFun ct := (payer ct.2 ct.1, ct.2)
  left_inv ct := by simp only [payer_payer]
  right_inv ct := by simp only [payer_payer]

abbrev tok (ct : Dev nD × TI) : sProp 𝕄 := dutyTok ER (tokOf ct).1 (tokOf ct).2.1 (tokOf ct).2.2

variable (P : Dev nD → FVec F S512x768 .f32)

/-- What the launch deals device `c`, -/
def G (c : Dev nD) : sProp 𝕄 :=
  iprop((bigSep Finset.univ fun i : CI => roundState ER (Rd P) (kcell (c, i)) 0)
    ∗ (bigSep Finset.univ fun i : CI => iprop(atPos ER (kcell (c, i)) 0 ∅ 0 ∗ reached ER (kcell (c, i)) 0))
    ∗ bigSep Finset.univ fun t : TI => tok (c, t))
/-- what of it is the device's alone once the tokens are passed around, -/
def linear (c : Dev nD) : sProp 𝕄 :=
  iprop((bigSep Finset.univ fun i : CI => atPos ER (kcell (c, i)) 0 ∅ 0) ∗ bigSep Finset.univ fun t : TI => tok (around (c, t)))
/-- and what the allocation makes of it. -/
def G' (c : Dev nD) : sProp 𝕄 := iprop(∃ K, records P K ∗ linear c)

theorem fund_cells : BI.own (ER (initOf theCells theToks)) ⊢ (|==> bigSep Finset.univ (G P) : sProp 𝕄) := by
  have hX (Φ : GSem nD τ sig → sProp 𝕄) : bigSep theCells Φ = bigSep Finset.univ fun c : Dev nD => bigSep Finset.univ fun i : CI => Φ (kcell (c, i)) := by
    unfold theCells; rw [bigSep_map, bigSep_univ_prod]; rfl
  have hT : bigSep theToks (fun x => (dutyTok ER x.1 x.2.1 x.2.2 : sProp 𝕄)) = bigSep Finset.univ fun c : Dev nD => bigSep Finset.univ fun t : TI => tok (c, t) := by
    unfold theToks; rw [bigSep_map, bigSep_univ_prod]; rfl
  iintro HX
  imod (Rounds.fund ER (Rd P) theCells theToks) $$ HX with ⟨Hst, Hr, Hat, Htok⟩
  imodintro
  ihave Hst' := (Entails.of_eq (hX fun g => roundState ER (Rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Regrouping -/

omit [FloatOps F] in
theorem bigSep_fives (Φ : Fin 5 → sProp 𝕄) : bigSep Finset.univ Φ = fives Φ := bigSep_univ_eq_bigSepL [0, 1, 2, 3, 4] (by decide) (by decide) Φ
omit [FloatOps F] in
theorem bigSep_fours (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
/-- The twenty by kind, then by step. -/
theorem bigSep_kinds (Φ : Fin 4 × Fin 5 → sProp 𝕄) : bigSep Finset.univ Φ
    = iprop((bigSep Finset.univ fun k => Φ (0, k)) ∗ (bigSep Finset.univ fun k => Φ (1, k)) ∗ (bigSep Finset.univ fun k => Φ (2, k)) ∗ bigSep Finset.univ fun k => Φ (3, k)) := by
  rw [bigSep_univ_prod, bigSep_fours]
omit [FloatOps F] in
theorem bigSep_cells (Φ : CI → sProp 𝕄) : bigSep Finset.univ Φ = iprop(Φ (.inl ()) ∗ bigSep Finset.univ fun ak => Φ (.inr ak)) := by
  rw [bigSep_univ_sum, bigSep_univ_of_subsingleton ()]; rfl
omit [FloatOps F] in
theorem bigSep_duties (Φ : TI → sProp 𝕄) : bigSep Finset.univ Φ = iprop((bigSep Finset.univ fun d => Φ (.inl d)) ∗ bigSep Finset.univ fun ak => Φ (.inr ak)) := by
  rw [bigSep_univ_sum]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 5 => semVal (dmaCell ak.1 ak.2 c) 0 := by
  unfold Pipeline.ownSems0
  exact bigSep_univ_equiv (finProdFinEquiv : Fin 4 × Fin 5 ≃ Fin 20) fun k : Fin 20 => (semVal (c.tc, osem k) 0 : sProp 𝕄)
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun i => iprop(∃ κ : ℕ, cellInv ER (Rd P) κ (kcell (c, i))))
          ∗ (bigSep Finset.univ fun i => iprop(atPos ER (kcell (c, i)) 0 ∅ 0 ∗ reached ER (kcell (c, i)) 0))
          ∗ bigSep Finset.univ fun t : TI => tok (c, t)) := by
  unfold G
  rw [ownSems0_eq, unscopedSems0_eq]
  iintro ⟨Hos, Hus, Hst, Hat, Htok⟩
  ihave Hv := (Entails.of_eq (bigSep_cells (fun i : CI => (semVal (kcell (c, i)) 0 : sProp 𝕄))).symm) $$ [Hos Hus]
  · isplitl [Hus] <;> iassumption
  imod (show iprop((bigSep Finset.univ fun i : CI => semVal (kcell (c, i)) 0) ∗ bigSep Finset.univ fun i : CI => roundState ER (Rd P) (kcell (c, i)) 0)
      ⊢ (|={Set.univ}=> bigSep Finset.univ fun i => iprop(∃ κ : ℕ, cellInv ER (Rd P) κ (kcell (c, i))) : sProp 𝕄) from by
        rw [← bigSep_sep']
        exact (bigSep_mono fun i _ => (Rounds.body_intro ER (Rd P) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem toks_around : (bigSep Finset.univ fun c : Dev nD => bigSep Finset.univ fun t : TI => (tok (c, t) : sProp 𝕄))
    = bigSep Finset.univ fun c : Dev nD => bigSep Finset.univ fun t : TI => tok (around (c, t)) := by
  rw [← bigSep_univ_prod (fun ct : Dev nD × TI => (tok ct : sProp 𝕄)), bigSep_univ_equiv around, bigSep_univ_prod]

omit [FloatOps F] in
/-- A persistent fact goes to every conjunct. -/
theorem bigSep_handing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd P) κ (kcell (c, i))))
          ∗ (bigSep Finset.univ fun i => iprop(atPos ER (kcell (c, i)) 0 ∅ 0 ∗ reached ER (kcell (c, i)) 0))
          ∗ bigSep Finset.univ fun t : TI => tok (c, t)) : sProp 𝕄)
      ⊢ bigSep Finset.univ (G' P) := by
  rw [bigSep_sep', bigSep_sep', ← bigSep_univ_prod (fun ci : Dev nD × CI => iprop(∃ κ : ℕ, cellInv ER (Rd P) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_around]
  iintro ⟨HI, ⟨Hat, #HR⟩, Htok⟩
  ihave HK := (BI.bigSep_exists_pi Finset.univ (fun (ci : Dev nD × CI) (κ : ℕ) => (cellInv ER (Rd P) κ (kcell ci) : sProp 𝕄))) $$ HI
  icases HK with ⟨%K, #HI⟩
  iapply (bigSep_handing (R := records P K) (Φ := fun c => linear c) (Ψ := G' P) fun c _ => by
    unfold G'; iintro ⟨#H1, H2⟩; iexists K; isplitr; · iexact H1
    iexact H2)
  isplitr
  · unfold records; isplitl; · iexact HI
    iexact HR
  · unfold linear
    iapply (Entails.of_eq (bigSep_sep' Finset.univ (fun c : Dev nD => bigSep Finset.univ fun i : CI => (atPos ER (kcell (c, i)) 0 ∅ 0 : sProp 𝕄))
      (fun c => bigSep Finset.univ fun t : TI => tok (around (c, t)))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The credit of the launch -/

theorem bar_eq_iff {a b : Dev nD} : barCell a = barCell b ↔ a = b :=
  ⟨fun h => congrArg (fun g : GSem nD τ sig => g.1.1) h, fun h => h ▸ rfl⟩
theorem dma_eq_iff {a a' : Fin 4} {k k' : Fin 5} {c c' : Dev nD} : dmaCell a k c = dmaCell a' k' c' ↔ a = a' ∧ k = k' ∧ c = c' := by
  constructor
  · intro h
    have h1 := dsem_inj a k a' k' (SemLoc.dma.inj (congrArg Prod.snd h))
    exact ⟨h1.1, h1.2, congrArg (fun g : GSem nD τ sig => g.1.1) h⟩
  · rintro ⟨rfl, rfl, rfl⟩; rfl
theorem bar_ne_dma {a : Fin 4} {k : Fin 5} {c c' : Dev nD} : barCell c ≠ dmaCell a k c' := fun h => by
  have := congrArg Prod.snd h; simp at this

/-- What device `d` owes a cell at launch, written out. -/
theorem owed_at (d : Dev nD) (g : GSem nD τ sig) : O₀ d g () =
    ((∑ i : Fin 5, if dmaCell 3 i (par i d) = g then cr (half i) else 0) + ∑ i : Fin 5, if dmaCell 1 i (par i d) = g then cr (half i) else 0)
      + ∑ i : Fin 5, if barCell (par i d) = g then 1 else 0 := by
  have ht (x : GSem nD τ sig) (n : ℕ) : (tallyAt x () n : CT) g () = if x = g then n else 0 := by
    rw [tallyAt_apply]; by_cases h : x = g
    · rw [if_pos h, if_pos ⟨h.symm, rfl⟩]
    · rw [if_neg h, if_neg fun h' => h h'.1.symm]
  unfold O₀ OB OR OG
  rw [Pi.add_apply, Finsupp.add_apply, Pi.add_apply, Finsupp.add_apply]
  simp only [Finset.sum_apply, Finsupp.finset_sum_apply]
  congr 1
  · congr 1
    · exact Finset.sum_congr rfl fun i _ => by rw [if_pos i.isLt]; exact ht _ _
    · exact Finset.sum_congr rfl fun i _ => by rw [if_pos (Nat.zero_le _)]; exact ht _ _
  · exact Finset.sum_congr rfl fun i _ => by rw [if_pos (Nat.zero_le _)]; exact ht _ _

theorem par_eq_iff {i : Fin 5} {d c : Dev nD} : par i d = c ↔ d = par i c :=
  ⟨fun h => by rw [← h, par_par], fun h => by rw [h, par_par]⟩

theorem owed_bar (c : Dev nD) : (∑ d : Dev nD, O₀ d (barCell c) ()) = 5 := by
  simp only [owed_at, bar_eq_iff, par_eq_iff, fun (a : Fin 4) (k : Fin 5) (c' : Dev nD) => (bar_ne_dma (a := a) (k := k) (c := c) (c' := c')).symm,
    if_false, Finset.sum_const_zero, Nat.zero_add]
  rw [Finset.sum_comm]
  simp
theorem owed_rs (k : Fin 5) (c : Dev nD) : (∑ d : Dev nD, O₀ d (dmaCell 1 k c) ()) = cr (half k) := by
  have h : ∀ d : Dev nD, O₀ d (dmaCell 1 k c) () = if d = par k c then cr (half k) else 0 := fun d => by
    rw [owed_at, Finset.sum_eq_zero (fun i _ => if_neg fun h => absurd (dma_eq_iff.mp h).1 (by decide)),
      Finset.sum_eq_zero (s := Finset.univ) (f := fun i : Fin 5 => if barCell (par i d) = dmaCell 1 k c then 1 else 0) (fun i _ => if_neg bar_ne_dma),
      Nat.zero_add, Nat.add_zero, Finset.sum_eq_single k (fun i _ hi => if_neg fun h => hi (dma_eq_iff.mp h).2.1) (fun h => absurd (Finset.mem_univ _) h)]
    simp only [dma_eq_iff, true_and, par_eq_iff]
  rw [Finset.sum_congr rfl fun d _ => h d, Finset.sum_ite_eq' Finset.univ (par k c) fun _ => cr (half k), if_pos (Finset.mem_univ _)]
theorem owed_ag (k : Fin 5) (c : Dev nD) : (∑ d : Dev nD, O₀ d (dmaCell 3 k c) ()) = cr (half k) := by
  have h : ∀ d : Dev nD, O₀ d (dmaCell 3 k c) () = if d = par k c then cr (half k) else 0 := fun d => by
    rw [owed_at, Finset.sum_eq_zero (s := Finset.univ) (f := fun i : Fin 5 => if dmaCell 1 i (par i d) = dmaCell 3 k c then cr (half i) else 0)
        (fun i _ => if_neg fun h => absurd (dma_eq_iff.mp h).1 (by decide)),
      Finset.sum_eq_zero (s := Finset.univ) (f := fun i : Fin 5 => if barCell (par i d) = dmaCell 3 k c then 1 else 0) (fun i _ => if_neg bar_ne_dma),
      Nat.add_zero, Nat.add_zero, Finset.sum_eq_single k (fun i _ hi => if_neg fun h => hi (dma_eq_iff.mp h).2.1) (fun h => absurd (Finset.mem_univ _) h)]
    simp only [dma_eq_iff, true_and, par_eq_iff]
  rw [Finset.sum_congr rfl fun d _ => h d, Finset.sum_ite_eq' Finset.univ (par k c) fun _ => cr (half k), if_pos (Finset.mem_univ _)]

theorem launch_of (g : GSem nD τ sig) (n : ℕ) (h : (∑ d : Dev nD, O₀ d g ()) = n) :
    tallyOn g (launchCredit (Pipeline.owing O₀) 0 g) = (tallyAt g () n : CT) := by
  unfold tallyAt; refine congrArg _ (Finsupp.ext fun u => ?_); cases u
  rw [Pipeline.launchCredit_owing, Finsupp.single_eq_same, h]

/-- A device's credits: five on its barrier, a transfer on each receive cell. -/
def creds (c : Dev nD) : sProp 𝕄 :=
  iprop(cred (tallyAt (barCell c) () 5) ∗ (bigSep Finset.univ fun k : Fin 5 => cred (tallyAt (dmaCell 1 k c) () (cr (half k))))
    ∗ bigSep Finset.univ fun k : Fin 5 => cred (tallyAt (dmaCell 3 k c) () (cr (half k))))

omit [FloatOps F] in
theorem creds_intro (c : Dev nD) : (Pipeline.launchCred O₀ c : sProp 𝕄) ⊢ creds c := by
  unfold Pipeline.launchCred creds
  refine (bigSep_subset (t := Finset.univ.map ⟨csem, csem_injective⟩) (Finset.subset_univ _)).trans ?_
  rw [bigSep_map, bigSep_cells, bigSep_kinds]
  show (iprop(cred (tallyOn (barCell c) (launchCredit (Pipeline.owing O₀) 0 (barCell c)))
    ∗ (bigSep Finset.univ fun k : Fin 5 => cred (tallyOn (dmaCell 0 k c) (launchCredit (Pipeline.owing O₀) 0 (dmaCell 0 k c))))
    ∗ (bigSep Finset.univ fun k : Fin 5 => cred (tallyOn (dmaCell 1 k c) (launchCredit (Pipeline.owing O₀) 0 (dmaCell 1 k c))))
    ∗ (bigSep Finset.univ fun k : Fin 5 => cred (tallyOn (dmaCell 2 k c) (launchCredit (Pipeline.owing O₀) 0 (dmaCell 2 k c))))
    ∗ bigSep Finset.univ fun k : Fin 5 => cred (tallyOn (dmaCell 3 k c) (launchCredit (Pipeline.owing O₀) 0 (dmaCell 3 k c)))) : sProp 𝕄) ⊢ _
  rw [launch_of (barCell c) 5 (owed_bar c),
    bigSep_congr (s := Finset.univ) (fun (k : Fin 5) _ => congrArg (fun x => (cred x : sProp 𝕄)) (launch_of (dmaCell 1 k c) _ (owed_rs k c))),
    bigSep_congr (s := Finset.univ) (fun (k : Fin 5) _ => congrArg (fun x => (cred x : sProp 𝕄)) (launch_of (dmaCell 3 k c) _ (owed_ag k c)))]
  iintro ⟨HB, -, H1, -, H3⟩
  isplitl [HB]; · iexact HB
  isplitl [H1]; · iexact H1
  iexact H3

/-! ## From the launch to the body and back -/

def start (c : Dev nD) : sProp 𝕄 := iprop(G' P c ∗ levAts L lv ∗ creds c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' P c)
      ⊢ |={Set.univ}=> iprop(start P c ∗ emp) := by
  iintro ⟨-, Hlev, Hcr, -, HG⟩
  ihave Hc := (creds_intro (F := F) c) $$ Hcr
  imodintro
  unfold start
  isplitl
  · isplitl [HG]; · iexact HG
    isplitl [Hlev]; · iexact Hlev
    iexact Hc
  · iempintro

theorem ghost_intro (K : Dev nD × CI → ℕ) (c : Dev nD) : iprop(records P K ∗ linear c ∗ levAts L lv ∗ creds c) ⊢ ghost P K c := by
  unfold linear creds ghost barIn
  rw [bigSep_cells, bigSep_kinds, bigSep_duties, bigSep_kinds, ← bigSep_fives, ← bigSep_fives, ← bigSep_fives]
  unfold rsIn agIn
  rw [bigSep_sep', bigSep_sep', bigSep_sep', bigSep_sep', bigSep_sep', bigSep_sep', bigSep_sep', bigSep_sep']
  iintro ⟨#HR, ⟨⟨HaB, Ha0, Ha1, Ha2, Ha3⟩, HtB, Ht0, Ht1, Ht2, Ht3⟩, Hlev, HcB, Hc1, Hc3⟩
  isplitr; · iexact HR
  isplitl [Hlev]; · iexact Hlev
  isplitl [HaB HtB HcB]
  · isplitl [HaB]; · iexact HaB
    isplitl [HtB]; · iexact HtB
    iexact HcB
  isplitl [Ha0 Ha1 Ht0 Ht1 Hc1]
  · isplitl [Ha0]; · iexact Ha0
    isplitl [Ha1]; · iexact Ha1
    isplitl [Ht0]; · iexact Ht0
    isplitl [Ht1]; · iexact Ht1
    iexact Hc1
  isplitl [Ha2]; · iexact Ha2
  isplitl [Ha3]; · iexact Ha3
  isplitl [Ht2]; · iexact Ht2
  isplitl [Ht3]; · iexact Ht3
  iexact Hc3

omit [FloatOps F] in
theorem com_whole (c : Dev nD) (f : FVec F S496x768 .f32) :
    (((c : Thread nD τ).loc cc0_scratch1) ↦{fullShare} f : sProp 𝕄) = comPts c 0 496 f := by
  unfold comPts; rw [rows_all]

theorem phi0_intro (c : Dev nD) :
    iprop(start (PS m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (PS m ρ) c from rfl, scopedRest0_eq]
  unfold Φ₀ start G'
  iintro ⟨⟨⟨%K, HR, Hl⟩, Hlev, Hc⟩, -, ⟨%f, Ha⟩, ⟨%g, Hm⟩⟩
  isplitl [HR Hl Hlev Hc]
  · iexists K
    iapply (ghost_intro (PS m ρ) K c)
    isplitl [HR]; · iexact HR
    isplitl [Hl]; · iexact Hl
    isplitl [Hlev] <;> iassumption
  isplitl [Ha]
  · iexists f; iapply (Entails.of_eq (acc_whole c f)); iexact Ha
  iexists g; iapply (Entails.of_eq (com_whole c g)); iexact Hm

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_kinds]
  unfold Φ₁ zeros
  rw [← bigSep_fives, ← bigSep_fives, bigSep_sep', bigSep_sep']
  iintro ⟨⟨%f, Ha⟩, ⟨%g, Hm⟩, ⟨H0, H1⟩, ⟨H2, H3⟩, HB⟩
  isplitl [HB]; · iexact HB
  isplitl [H0 H1 H2 H3]
  · isplitl [H0]; · iexact H0
    isplitl [H1]; · iexact H1
    isplitl [H2] <;> iassumption
  isplitl [Ha]
  · iexists f; iapply (Entails.of_eq (acc_whole c f).symm); iexact Ha
  iexists g; iapply (Entails.of_eq (com_whole c g).symm); iexact Hm

theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (by fin_cases w <;> fin_cases s <;> exact Nat.le_of_eq rfl) (by
      rcases t with ⟨_ | _, ht⟩
      · exact above_OB
      · intro g u h; exact absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every fair execution of the program terminates, with each device's arrays at
    the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (PS m ρ)) (G' := G' (PS m ρ)) (u₀ := u₀)
    (hu₀ := by
      unfold u₀
      iintro Hu
      ihave H := (ownU_pair _ _) $$ Hu
      icases H with ⟨HP, HX⟩
      imod (fund_cells (PS m ρ)) $$ HX with HG
      imodintro
      isplitl [HP] <;> iassumption)
    (hglob := glob (PS m ρ))
    (hA := fun _ _ => rfl) (hpf := fun _ k => k.elim0)
    (X := start (PS m ρ)) (Y := fun c => unscopedSems0 c) (Z := fun _ => iprop(emp))
    (hX := start_intro m ρ (PS m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Halving

end
-- ==== Proof.Frames.lean ====
/-
The three frames: the run read at the arguments, which it leaves as they were, and at the semaphores, all zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Halving

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem final_x (c : Dev nD) : finalA m ρ c (0 : Fin 6) = m ((c : Thread nD τ).loc main_arg0) := (dats m ρ 0 c).arrAt_in (0 : Fin 6) rfl _
theorem final_wq (c : Dev nD) : finalA m ρ c (1 : Fin 6) = m ((c : Thread nD τ).loc main_arg1) := (dats m ρ 0 c).arrAt_in (1 : Fin 6) rfl _
theorem final_wo (c : Dev nD) : finalA m ρ c (2 : Fin 6) = m ((c : Thread nD τ).loc main_arg4) := (dats m ρ 0 c).arrAt_in (2 : Fin 6) rfl _
theorem final_wk (c : Dev nD) : finalA m ρ c (3 : Fin 6) = m ((c : Thread nD τ).loc main_arg2) := (dats m ρ 0 c).arrAt_in (3 : Fin 6) rfl _
theorem final_wv (c : Dev nD) : finalA m ρ c (4 : Fin 6) = m ((c : Thread nD τ).loc main_arg3) := (dats m ρ 0 c).arrAt_in (4 : Fin 6) rfl _

/-- What a finished run leaves of device `c`'s arguments. -/
theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c (0 : Fin 6)).trans (final_x m ρ c), (h c (1 : Fin 6)).trans (final_wq m ρ c), (h c (3 : Fin 6)).trans (final_wk m ρ c),
    (h c (4 : Fin 6)).trans (final_wv m ρ c), (h c (2 : Fin 6)).trans (final_wo m ρ c)⟩

/-- The run, read at the arguments and the semaphores. -/
theorem kept : θ_run defs (onTc (τ := τ) (main (F := F))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0 :=
  (θ_run defs _ _).mono (fun _ h => ⟨args_kept m ρ h.1, h.2⟩) (run_main m ρ)

set_option smartUnfolding false in
set_option maxRecDepth 65536 in
/-- The kernel as written, at machine words: the same text under another name, which the elaborator sees once it unfolds
    both. -/
theorem frame_words : Cert.quiescent_Kernel (hKernel := Cert.Kernel.Gen.facts) := fun m ρ _ => kept (F := Bits) m ρ
/-- The kernel over extended reals. -/
theorem frame_reals : Cert.quiescent_KernelIdeal (hKernelIdeal := Cert.KernelIdeal.Gen.facts) := fun m ρ _ => kept (F := Ideal) m ρ
/-- The reference over extended reals. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Halving

end
-- ==== Proof.LocalValue.lean ====
/-
What one device computes, read entry by entry over the reals: each head of each batch is softmax attention over 256
positions and 64 features, cut from the three projections, and the partial sums are its product with the rows of `Wo`.
-/
module

public import proofs.«01_k».proof.Proof.Body
public import Idealize.ShloMosaic.Lib.Pointwise

@[expose] public section

noncomputable section

namespace Cert.Halving

open Cert.KernelIdeal Cert.KernelIdeal.Gen
open Idealize.ShloMosaic

variable {F : FTy → Type} [FloatOps F]

/-- One head of one batch, from its 256 rows and 64 columns of the projections. -/
def head (q k v : FVec F S256x64 .f32) : FVec F S256x64 .f32 :=
  have s : FVec F S256x256 .f32 := mulf (matmul dot_S256x64_S256x64_S256x256_1_1_0_0_n_n none q k (constant S256x256 .f32 0x00000000#32)) (broadcast S256x256 (Scalar.ofBits .f32 0x3E000000#32))
  have t : FVec F S256 .f32 := multiReduction .maximumf [1] S256 s 0xFF800000#32 reduces_S256x256_S256 (.inl rfl) rfl
  have p : FVec F S256x256 .f32 := exp (subf s (broadcastTo S256x256 (shapeCast S256x1 t shapeCasts_S256_S256x1) broadcasts_S256x1_S256x256))
  have l : FVec F S256 .f32 := multiReduction .add [1] S256 p 0x00000000#32 reduces_S256x256_S256 (.inl rfl) rfl
  divf (matmul dot_S256x256_S256x64_S256x64_1_0_0_1_n_n none p v (constant S256x64 .f32 0x00000000#32))
    (broadcastTo S256x64 (shapeCast S256x1 l shapeCasts_S256_S256x1) broadcasts_S256x1_S256x64)

/-- The head whose rows start at `o 0` and whose columns start at `o 1`. -/
def headAt (o : Fin 2 → ℕ) (h : S512x512.Slices o S256x64) (q k v : FVec F S512x512 .f32) : FVec F S256x64 .f32 :=
  head (extractStridedSlice S256x64 o q h) (extractStridedSlice S256x64 o k h) (extractStridedSlice S256x64 o v h)

theorem headAt_fits (b : Fin 2) (h : Fin 8) : S512x512.Slices ![b.val * 256, h.val * 64] S256x64 :=
  ⟨rfl, fun a => by fin_cases a <;> [show b.val * 256 + 256 ≤ 512; show h.val * 64 + 64 ≤ 512] <;> omega⟩

/-- The eight heads of a batch side by side. -/
def band (q k v : FVec F S512x512 .f32) (b : Fin 2) : FVec F S256x512 .f32 :=
  concatenate S256x512 1 (List.ofFn fun h : Fin 8 => ⟨S256x64, headAt ![b.val * 256, h.val * 64] (headAt_fits b h) q k v⟩)
    concatenates_S256x64_S256x64_S256x64_S256x64_S256x64_S256x64_S256x64_S256x64_S256x512_d1
/-- Both batches' heads. -/
def heads (q k v : FVec F S512x512 .f32) : FVec F S512x512 .f32 :=
  concatenate S512x512 0 [⟨S256x512, band q k v 0⟩, ⟨S256x512, band q k v 1⟩] concatenates_S256x512_S256x512_S512x512_d0

/-- The partial sums are the heads times the rows of `Wo`. -/
theorem part_eq (x : FVec F S2x256x768 .f32) (wq : FVec F S768x512 .f32) (wo : FVec F S512x768 .f32) (wk wv : FVec F S768x512 .f32) :
    part x wq wo wk wv
      = shapeCast S512x768 (matmul dot_S512x512_S512x768_S512x768_1_0_0_1_n_n none
          (heads (k0_pay3 x wq) (k0_pay4 x wk) (k0_pay5 x wv)) (shapeCast S512x768 wo shapeCasts_S512x768_S512x768)
          (constant S512x768 .f32 0x00000000#32)) shapeCasts_S512x768_S512x768 := rfl

/-! ## Over the reals -/

/-- The scaled score of position `i` against position `j`. -/
def score (q k : Fin 256 → Fin 64 → EReal) (i j : Fin 256) : EReal :=
  (∑ e : Fin 64, q i e * k j e) * Ideal.ofBits .f32 0x3E000000#32
/-- The weight of position `j` for position `i`: the exponential of its score less the row's greatest. -/
def weight (q k : Fin 256 → Fin 64 → EReal) (i j : Fin 256) : EReal :=
  Ideal.exp (score q k i j - Finset.univ.fold max (Ideal.ofBits .f32 0xFF800000#32) (fun j' => score q k i j'))
/-- Softmax attention: the weighted values over the sum of the weights. -/
def soft (q k v : Fin 256 → Fin 64 → EReal) (i : Fin 256) (d : Fin 64) : EReal :=
  Ideal.div (∑ j : Fin 256, weight q k i j * v j d) (∑ j : Fin 256, weight q k i j)

theorem head_apply (q k v : FVec Ideal S256x64 .f32) (i : Fin 256) (d : Fin 64) :
    head q k v (ix2 i d) = soft (fun i e => q (ix2 i e)) (fun i e => k (ix2 i e)) (fun i e => v (ix2 i e)) i d := by
  pointwise [head]
  rfl

/-- Row `i` of batch `b`, of the 512 rows of both. -/
def row (b : Fin 2) (i : Fin 256) : Fin 512 := ⟨b.val * 256 + i.val, by omega⟩
/-- Feature `e` of head `h`, of a device's 512 columns. -/
def col (h : Fin 8) (e : Fin 64) : Fin 512 := ⟨h.val * 64 + e.val, by omega⟩

/-- A head read from whole projections, at the batch and head its offsets name. -/
theorem headAt_apply (o : Fin 2 → ℕ) (hs : S512x512.Slices o S256x64) (q k v : FVec Ideal S512x512 .f32) (b : Fin 2) (h : Fin 8)
    (hb : o 0 = b.val * 256) (hh : o 1 = h.val * 64) (i : Fin 256) (d : Fin 64) :
    headAt o hs q k v (ix2 i d)
      = soft (fun i e => q (ix2 (row b i) (col h e))) (fun i e => k (ix2 (row b i) (col h e))) (fun i e => v (ix2 (row b i) (col h e))) i d := by
  have cut (u : FVec Ideal S512x512 .f32) (i : Fin 256) (e : Fin 64) :
      extractStridedSlice S256x64 o u hs (ix2 i e) = u (ix2 (row b i) (col h e)) := by
    show u _ = u _
    congr 1
    funext a
    refine Fin.ext ?_
    match a with
    | ⟨0, _⟩ => show o 0 + i.val = b.val * 256 + i.val; rw [hb]
    | ⟨1, _⟩ => show o 1 + e.val = h.val * 64 + e.val; rw [hh]
  unfold headAt
  rw [head_apply]
  simp only [cut]

theorem band_apply (q k v : FVec Ideal S512x512 .f32) (b : Fin 2) (h : Fin 8) (i : Fin 256) (d : Fin 64) :
    band q k v b (ix2 i (col h d))
      = soft (fun i e => q (ix2 (row b i) (col h e))) (fun i e => k (ix2 (row b i) (col h e))) (fun i e => v (ix2 (row b i) (col h e))) i d := by
  have hd : (h.val * 64 + d.val) / 64 = h.val := by omega
  have hm : d.val = (h.val * 64 + d.val) % 64 := by omega
  refine (concatenate_ofFn_apply (t := S256x512) (s₁ := S256x64) 1 (fun h : Fin 8 => headAt ![b.val * 256, h.val * 64] (headAt_fits b h) q k v)
    concatenates_S256x64_S256x64_S256x64_S256x64_S256x64_S256x64_S256x64_S256x64_S256x512_d1 rfl 64 rfl (ix2 i (col h d)) h hd (ix2 i d) hm ?_).trans
    (headAt_apply _ _ q k v b h rfl rfl i d)
  intro a ha
  match a, ha with
  | ⟨0, _⟩, _ => rfl
  | ⟨1, _⟩, ha => exact absurd rfl ha

/-- The attention a device computes, at a batch, a position, a head and a feature. -/
theorem heads_apply (q k v : FVec Ideal S512x512 .f32) (b : Fin 2) (h : Fin 8) (i : Fin 256) (d : Fin 64) :
    heads q k v (ix2 (row b i) (col h d))
      = soft (fun i e => q (ix2 (row b i) (col h e))) (fun i e => k (ix2 (row b i) (col h e))) (fun i e => v (ix2 (row b i) (col h e))) i d := by
  rw [← band_apply]
  pointwise [heads]
  have hr : (row b i).val = b.val * 256 + i.val := rfl
  fin_vals b with hb
  · obtain rfl : b = 0 := Fin.ext hb
    rw [dif_pos (by omega)]
    exact congrArg (fun r => band q k v 0 (ix2 r (col h d))) (Fin.ext (by simpa using hr))
  · obtain rfl : b = 1 := Fin.ext hb
    rw [dif_neg (by omega)]
    exact congrArg (fun r => band q k v 1 (ix2 r (col h d))) (Fin.ext (show (row 1 i).val - 256 = i.val by rw [hr]; simp))

/-- A projection, at a batch and a position. -/
def proj (x : FVec Ideal S2x256x768 .f32) (w : FVec Ideal S768x512 .f32) (b : Fin 2) (i : Fin 256) (l : Fin 512) : EReal :=
  ∑ D : Fin 768, x (ix3 b i D) * w (ix2 D l)

theorem proj_apply (x : FVec Ideal S2x256x768 .f32) (w : FVec Ideal S768x512 .f32) (b : Fin 2) (i : Fin 256) (l : Fin 512) :
    k0_pay3 (F := Ideal) x w (ix2 (row b i) l) = proj x w b i l := by
  pointwise [k0_pay3, k0_pay2]
  exact Finset.sum_congr rfl fun D _ => congrArg (· * w (ix2 D l)) (congrArg x (congrArg₂ (fun u v => ix3 u v D)
    (Fin.ext (show (b.val * 256 + i.val) / 256 = b.val by omega)) (Fin.ext (show (b.val * 256 + i.val) % 256 = i.val by omega))))

theorem sum_col (f : Fin 512 → EReal) : ∑ l, f l = ∑ h : Fin 8, ∑ d : Fin 64, f (col h d) := by
  rw [← Fintype.sum_prod_type', ← (finProdFinEquiv (m := 8) (n := 64)).sum_comp]
  exact Finset.sum_congr rfl fun p _ => congrArg f (Fin.ext (show p.2.val + 64 * p.1.val = p.1.val * 64 + p.2.val by ring))

/-- A device's partial sum at a batch, a position and an output column. -/
theorem part_apply (x : FVec Ideal S2x256x768 .f32) (wq : FVec Ideal S768x512 .f32) (wo : FVec Ideal S512x768 .f32) (wk wv : FVec Ideal S768x512 .f32)
    (b : Fin 2) (i : Fin 256) (n : Fin 768) :
    part x wq wo wk wv (ix2 (row b i) n)
      = ∑ h : Fin 8, ∑ d : Fin 64, soft (fun i e => proj x wq b i (col h e)) (fun i e => proj x wk b i (col h e)) (fun i e => proj x wv b i (col h e)) i d
          * wo (ix2 (col h d) n) := by
  rw [part_eq]
  pointwise
  rw [sum_col]
  refine Finset.sum_congr rfl fun h _ => Finset.sum_congr rfl fun d _ => congrArg (· * _) ?_
  rw [heads_apply]
  simp only [proj_apply, show k0_pay4 (F := Ideal) x wk = k0_pay3 x wk from rfl, show k0_pay5 (F := Ideal) x wv = k0_pay3 x wv from rfl]

end Cert.Halving

end
-- ==== Proof.RefValue.lean ====
/-
The reference, read entry by entry over the reals: its running-maximum form of softmax attention, started from minus
infinity and from zero sums, is plain softmax attention, and its result is the product of all heads with `Wo`.
-/
module

public import proofs.«01_k».proof.Proof.LocalValue
public import proofs.«01_k».proof.Proof.Gen.ReferenceIdeal.Run

@[expose] public section

noncomputable section

namespace Cert.Halving

open Idealize.ShloMosaic Idealize.ShloMosaic.TcCoe
open Cert.ReferenceIdeal Cert.ReferenceIdeal.Gen

namespace Ref

/-- A projection of all heads, its columns split into heads and features. -/
def qkv (x : FVec Ideal S2x256x768 .f32) (w : FVec Ideal S768x16384 .f32) : FVec Ideal S2x256x256x64 .f32 :=
  shapeCast S2x256x256x64 (Host.dotGeneral dot_S2x256x768_S768x16384_S2x256x16384_2_0_01_1_n_n none x w) shapeCasts_S2x256x16384_S2x256x256x64
/-- The scaled scores. -/
def scores (q k : FVec Ideal S2x256x256x64 .f32) : FVec Ideal S2x256x256x256 .f32 :=
  mulf (Host.dotGeneral dot_S2x256x256x64_S2x256x256x64_S2x256x256x256_3_3_1_1_02_02 none q k)
    (broadcastInDim S2x256x256x256 ![] bcast_S_S2x256x256x256 (constant S_ .f32 0x3E000000#32))
/-- The running maximum at its start. -/
def start : FVec Ideal S2x256x256x1 .f32 := broadcastInDim S2x256x256x1 ![] bcast_S_S2x256x256x1 (constant S_ .f32 0xFF800000#32)
/-- The running maximum after the one block. -/
def peak (s : FVec Ideal S2x256x256x256 .f32) : FVec Ideal S2x256x256x1 .f32 :=
  maximumf start (broadcastInDim S2x256x256x1 ![0, 1, 2] bcast_S2x256x256_S2x256x256x1_0_1_2
    (Host.reduce FloatOps.maximumf s (constant S_ .f32 0xFF800000#32) reducesTo_S2x256x256x256_S2x256x256_d3 h_S_))
/-- What the sums so far are scaled by. -/
def keep (s : FVec Ideal S2x256x256x256 .f32) : FVec Ideal S2x256x256x1 .f32 := Host.exp (subf start (peak s))
/-- The weights. -/
def weights (s : FVec Ideal S2x256x256x256 .f32) : FVec Ideal S2x256x256x256 .f32 :=
  Host.exp (subf s (broadcastInDim S2x256x256x256 ![0, 1, 2, 3] bcast_S2x256x256x1_S2x256x256x256_0_1_2_3 (peak s)))
/-- The sum of the weights. -/
def total (s : FVec Ideal S2x256x256x256 .f32) : FVec Ideal S2x256x256x1 .f32 :=
  addf (mulf (broadcastInDim S2x256x256x1 ![] bcast_S_S2x256x256x1 (constant S_ .f32 0x00000000#32)) (keep s))
    (broadcastInDim S2x256x256x1 ![0, 1, 2] bcast_S2x256x256_S2x256x256x1_0_1_2
      (Host.reduceAdd (weights s) (constant S_ .f32 0x00000000#32) reducesTo_S2x256x256x256_S2x256x256_d3 h_S_))
/-- The weighted values. -/
def mixed (s : FVec Ideal S2x256x256x256 .f32) (v : FVec Ideal S2x256x256x64 .f32) : FVec Ideal S2x256x256x64 .f32 :=
  addf (mulf (broadcastInDim S2x256x256x64 ![] bcast_S_S2x256x256x64 (constant S_ .f32 0x00000000#32))
      (broadcastInDim S2x256x256x64 ![0, 1, 2, 3] bcast_S2x256x256x1_S2x256x256x64_0_1_2_3
        (transpose S2x256x256x1 [0, 2, 1, 3] (keep s) transposes_S2x256x256x1_S2x256x256x1_0_2_1_3)))
    (transpose S2x256x256x64 [0, 3, 1, 2] (Host.dotGeneral dot_S2x256x256x64_S2x256x256x256_S2x256x64x256_1_3_3_2_02_01 none v (weights s))
      transposes_S2x256x64x256_S2x256x256x64_0_3_1_2)
/-- All heads' attention. -/
def attn (s : FVec Ideal S2x256x256x256 .f32) (v : FVec Ideal S2x256x256x64 .f32) : FVec Ideal S2x256x256x64 .f32 :=
  Host.divf (mixed s v) (broadcastInDim S2x256x256x64 ![0, 1, 2, 3] bcast_S2x256x256x1_S2x256x256x64_0_1_2_3
    (transpose S2x256x256x1 [0, 2, 1, 3] (total s) transposes_S2x256x256x1_S2x256x256x1_0_2_1_3))
/-- The reference's result. -/
def result (x : FVec Ideal S2x256x768 .f32) (wq wk wv : FVec Ideal S768x16384 .f32) (wo : FVec Ideal S16384x768 .f32) : FVec Ideal S2x256x768 .f32 :=
  Host.dotGeneral dot_S2x256x16384_S16384x768_S2x256x768_2_0_01_1_n_n none
    (shapeCast S2x256x16384 (attn (scores (qkv x wq) (qkv x wk)) (qkv x wv)) shapeCasts_S2x256x256x64_S2x256x16384) wo

set_option maxRecDepth 8192 in
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v34; rfl

/-- Column `e` of head `H`, of all 16384. -/
def wide (H : Fin 256) (e : Fin 64) : Fin 16384 := ⟨H.val * 64 + e.val, by omega⟩

theorem qkv_apply (x : FVec Ideal S2x256x768 .f32) (w : FVec Ideal S768x16384 .f32) (b : Fin 2) (i H : Fin 256) (e : Fin 64) :
    qkv x w (ix4 b i H e) = ∑ D : Fin 768, x (ix3 b i D) * w (ix2 D (wide H e)) := by
  pointwise [qkv]
  rfl

theorem scores_apply (q k : FVec Ideal S2x256x256x64 .f32) (b : Fin 2) (H i j : Fin 256) :
    scores q k (ix4 b H i j) = score (fun i e => q (ix4 b i H e)) (fun i e => k (ix4 b i H e)) i j := by
  pointwise [scores]
  rfl

/-- A reduction of the last axis, spread over a last axis of extent one. -/
theorem spread_apply (y : FVec Ideal S2x256x256 .f32) (b : Fin 2) (H i : Fin 256) :
    broadcastInDim S2x256x256x1 ![0, 1, 2] bcast_S2x256x256_S2x256x256x1_0_1_2 y (ix4 b H i 0) = y (ix3 b H i) := by
  pointwise

theorem reduce_apply (f : EReal → EReal → EReal) [Std.Commutative f] [Std.Associative f] (s : FVec Ideal S2x256x256x256 .f32) (y : FVec Ideal S_ .f32)
    (b : Fin 2) (H i : Fin 256) :
    Host.reduce f s y reducesTo_S2x256x256x256_S2x256x256_d3 h_S_ (ix3 b H i)
      = Finset.univ.fold f (y (Shape.Idx.first h_S_)) (fun j => s (ix4 b H i j)) := by
  rw [Host.reduce_eq_fold]
  exact Shape.ReducesTo.fold_fiber_r4_a3 reducesTo_S2x256x256x256_S2x256x256_d3 (ix3 b H i) f _ s

theorem start_apply (j : S2x256x256x1.Idx) : start j = Ideal.ofBits .f32 0xFF800000#32 := by
  pointwise [start]

theorem fold_top (S : Finset (Fin 256)) (a : EReal) (f : Fin 256 → EReal) : max a (S.fold max a f) = S.fold max a f :=
  max_eq_right ((Finset.le_fold_max _).2 (.inl le_rfl))

theorem maximumf_at {s : Shape} (x y : FVec Ideal s .f32) (j : s.Idx) : maximumf x y j = max (x j) (y j) := rfl

theorem peak_eq (s : FVec Ideal S2x256x256x256 .f32) (b : Fin 2) (H i : Fin 256) :
    peak s (ix4 b H i 0) = max (start (ix4 b H i 0)) (Host.reduce FloatOps.maximumf s (constant S_ .f32 0xFF800000#32) reducesTo_S2x256x256x256_S2x256x256_d3 h_S_ (ix3 b H i)) := by
  unfold peak
  rw [maximumf_at, spread_apply]

theorem max_op : (FloatOps.maximumf : Ideal .f32 → Ideal .f32 → Ideal .f32) = (max : EReal → EReal → EReal) := rfl

theorem red_apply (s : FVec Ideal S2x256x256x256 .f32) (b : Fin 2) (H i : Fin 256) :
    Host.reduce FloatOps.maximumf s (constant S_ .f32 0xFF800000#32) reducesTo_S2x256x256x256_S2x256x256_d3 h_S_ (ix3 b H i)
      = Finset.univ.fold max ((constant S_ .f32 0xFF800000#32 : FVec Ideal S_ .f32) (Shape.Idx.first h_S_)) (fun j => s (ix4 b H i j)) := by
  rw [max_op]
  exact reduce_apply max s _ b H i

theorem peak_apply (s : FVec Ideal S2x256x256x256 .f32) (b : Fin 2) (H i : Fin 256) :
    peak s (ix4 b H i 0) = Finset.univ.fold max (Ideal.ofBits .f32 0xFF800000#32) (fun j => s (ix4 b H i j)) := by
  rw [peak_eq, start_apply, red_apply]
  exact fold_top _ _ _

theorem total_apply (s : FVec Ideal S2x256x256x256 .f32) (b : Fin 2) (H i : Fin 256) :
    total s (ix4 b H i 0) = ∑ j, weights s (ix4 b H i j) := by
  pointwise [total]
  rw [zero_mul, zero_add]

theorem weights_apply (s : FVec Ideal S2x256x256x256 .f32) (b : Fin 2) (H i j : Fin 256) :
    weights s (ix4 b H i j) = Ideal.exp (s (ix4 b H i j) - peak s (ix4 b H i 0)) := by
  pointwise [weights]

theorem mixed_apply (s : FVec Ideal S2x256x256x256 .f32) (v : FVec Ideal S2x256x256x64 .f32) (b : Fin 2) (i H : Fin 256) (d : Fin 64) :
    mixed s v (ix4 b i H d) = ∑ j, weights s (ix4 b H i j) * v (ix4 b j H d) := by
  pointwise [mixed]
  rw [zero_mul, zero_add]
  exact Finset.sum_congr rfl fun j _ => mul_comm _ _

theorem attn_apply (s : FVec Ideal S2x256x256x256 .f32) (v : FVec Ideal S2x256x256x64 .f32) (b : Fin 2) (i H : Fin 256) (d : Fin 64) :
    attn s v (ix4 b i H d) = Ideal.div (mixed s v (ix4 b i H d)) (total s (ix4 b H i 0)) := by
  pointwise [attn]

/-- The reference's attention is softmax attention, head by head. -/
theorem attn_soft (q k v : FVec Ideal S2x256x256x64 .f32) (b : Fin 2) (i H : Fin 256) (d : Fin 64) :
    attn (scores q k) v (ix4 b i H d)
      = soft (fun i e => q (ix4 b i H e)) (fun i e => k (ix4 b i H e)) (fun i e => v (ix4 b i H e)) i d := by
  rw [attn_apply, mixed_apply, total_apply]
  simp only [weights_apply, peak_apply, scores_apply]
  rfl

theorem sum_wide (f : Fin 16384 → EReal) : ∑ L, f L = ∑ H : Fin 256, ∑ d : Fin 64, f (wide H d) := by
  rw [← Fintype.sum_prod_type', ← (finProdFinEquiv (m := 256) (n := 64)).sum_comp]
  exact Finset.sum_congr rfl fun p _ => congrArg f (Fin.ext (show p.2.val + 64 * p.1.val = p.1.val * 64 + p.2.val by ring))

/-- The reference's result at a batch, a position and an output column. -/
theorem result_apply (x : FVec Ideal S2x256x768 .f32) (wq wk wv : FVec Ideal S768x16384 .f32) (wo : FVec Ideal S16384x768 .f32) (b : Fin 2) (i : Fin 256) (n : Fin 768) :
    result x wq wk wv wo (ix3 b i n)
      = ∑ H : Fin 256, ∑ d : Fin 64, soft (fun i e => qkv x wq (ix4 b i H e)) (fun i e => qkv x wk (ix4 b i H e)) (fun i e => qkv x wv (ix4 b i H e)) i d
          * wo (ix2 (wide H d) n) := by
  pointwise [result]
  rw [sum_wide]
  refine Finset.sum_congr rfl fun H _ => Finset.sum_congr rfl fun d _ => congrArg (· * _) ?_
  rw [← attn_soft]
  exact congrArg (attn _ _) (congrArg₂ (ix4 b i) (Fin.ext (show (H.val * 64 + d.val) / 64 = H.val by omega))
    (Fin.ext (show (H.val * 64 + d.val) % 64 = d.val by omega)))

end Ref

end Cert.Halving

end
-- ==== Proof.Equation.lean ====
/-
The two programs agree over the reals: the gathered array is the sum of the devices' partial sums, each device's block of
the weights is eight heads of the reference's, and a sum over 32 devices of eight heads is the sum over 256 heads.
-/
module

public import proofs.«01_k».proof.Proof.RefValue
public import proofs.«01_k».proof.Proof.Frames
public import Idealize.ShloMosaic.Lib.Layout
public import Idealize.ShloMosaic.Lib.Pipeline.ValueKit.Geometry

@[expose] public section

noncomputable section

namespace Cert.Halving

open Cert.KernelIdeal Cert.KernelIdeal.Gen
open Idealize.ShloMosaic Idealize.ShloMosaic.TcCoe Idealize.SL.Sem
open Idealize.ShloMosaic.Pipeline (Dat Cfg Window)

/-! ## The exchange adds up all devices -/

/-- The devices whose partial sums device `c` holds before step `k`: those that differ from it in the lower `k` bits. -/
def merged (k : ℕ) (c : Dev nD) : Finset (Dev nD) := Finset.univ.filter fun d => d.val / 2 ^ k = c.val / 2 ^ k

theorem merged_succ : ∀ (k : Fin 5) (c : Dev nD),
    merged (k.val + 1) c = merged k.val c ∪ merged k.val (par k c) ∧ Disjoint (merged k.val c) (merged k.val (par k c)) := by
  decide +kernel
theorem merged_zero : ∀ c : Dev nD, merged 0 c = {c} := by decide +kernel
theorem merged_five : ∀ c : Dev nD, merged 5 c = Finset.univ := by decide +kernel

theorem acc_sum (P : Dev nD → FVec Ideal S512x768 .f32) (i : S512x768.Idx) :
    ∀ (k : ℕ) (hk : k ≤ 5) (c : Dev nD), acc P k c i = ∑ d ∈ merged k c, P d i
  | 0, _, c => by rw [merged_zero, Finset.sum_singleton]; rfl
  | k + 1, hk, c => by
    have h := merged_succ ⟨k, hk⟩ c
    have e := congrFun (acc_succ P ⟨k, hk⟩ c) i
    dsimp only at h e
    rw [h.1, Finset.sum_union h.2, ← acc_sum P i k (by omega), ← acc_sum P i k (by omega), e]
    rfl

theorem gathered_apply (P : Dev nD → FVec Ideal S512x768 .f32) (i : S512x768.Idx) : gathered P i = ∑ d, P d i := by
  unfold gathered
  rw [acc_sum P i 5 le_rfl, merged_five]

theorem pay1_apply (g : FVec Ideal S512x768 .f32) (b : Fin 2) (i : Fin 256) (n : Fin 768) : k0_pay1 (F := Ideal) g (ix3 b i n) = g (ix2 (row b i) n) := by
  pointwise [k0_pay1]
  rfl

/-! ## Windows that are whole arrays -/

variable {F : FTy → Type} [FloatOps F]
variable (m : (ℓ : Loc nD τ sig) → Buf (Elt F) ℓ) (ρ : Dev nD → PrngReg)

theorem xs_eq (c : Dev nD) : xs m ρ c = m ((c : Thread nD τ).loc main_arg0) :=
  Memref.read_access_unit_zero (Elt F) main_arg0 (funext fun a => by fin_cases a <;> decide) (fun a => by fin_cases a <;> decide) _
theorem wqs_eq (c : Dev nD) : wqs m ρ c = m ((c : Thread nD τ).loc main_arg1) :=
  Memref.read_access_unit_zero (Elt F) main_arg1 (funext fun a => by fin_cases a <;> decide) (fun a => by fin_cases a <;> decide) _
theorem wos_eq (c : Dev nD) : wos m ρ c = m ((c : Thread nD τ).loc main_arg4) :=
  Memref.read_access_unit_zero (Elt F) main_arg4 (funext fun a => by fin_cases a <;> decide) (fun a => by fin_cases a <;> decide) _
theorem wks_eq (c : Dev nD) : wks m ρ c = m ((c : Thread nD τ).loc main_arg2) :=
  Memref.read_access_unit_zero (Elt F) main_arg2 (funext fun a => by fin_cases a <;> decide) (fun a => by fin_cases a <;> decide) _
theorem wvs_eq (c : Dev nD) : wvs m ρ c = m ((c : Thread nD τ).loc main_arg3) :=
  Memref.read_access_unit_zero (Elt F) main_arg3 (funext fun a => by fin_cases a <;> decide) (fun a => by fin_cases a <;> decide) _

/-- The result array ends as the body left its staging buffer: the one block is the whole array. -/
theorem final_out (c : Dev nD) : finalA m ρ c (5 : Fin 6) = outAt m ρ c :=
  (dats m ρ 0 c).arrAt_eq_of_after_last (5 : Fin 6) (0 : Fin 1)
    ⟨by decide, fun t _ => Subsingleton.elim (α := Fin 1) t 0, fun a => by fin_cases a <;> exact ⟨rfl, rfl⟩⟩ (outAt m ρ c) (fun _ => rfl)

/-! ## The devices' heads are the reference's -/

/-- Head `h` of device `c`, of the reference's 256. -/
def headNo (c : Dev nD) (h : Fin 8) : Fin 256 := ⟨c.val * 8 + h.val, by have : c.val < 32 := c.isLt; omega⟩

theorem sum_headNo (f : Fin 256 → EReal) : ∑ H, f H = ∑ c : Dev nD, ∑ h : Fin 8, f (headNo c h) := by
  rw [← Fintype.sum_prod_type', ← (finProdFinEquiv (m := 32) (n := 8)).sum_comp]
  exact Finset.sum_congr rfl fun p _ => congrArg f (Fin.ext (show p.2.val + 8 * p.1.val = p.1.val * 8 + p.2.val by ring))

/-- A device's columns of a projection's weight are eight heads' columns of the whole weight. -/
theorem block_col (w : FVec Ideal ⟨2, ![768, 16384]⟩ .f32) (c : Dev nD) (D : Fin 768) (h : Fin 8) (e : Fin 64) :
    Layout.block ⟨2, ![768, 512]⟩ ⟨2, ![768, 16384]⟩ 1 32 c w (by decide) (ix2 D (col h e)) = w (ix2 D (Ref.wide (headNo c h) e)) :=
  congrArg w (funext fun a => match a with
    | ⟨0, _⟩ => rfl
    | ⟨1, _⟩ => Fin.ext (show c.val * 512 + (h.val * 64 + e.val) = (c.val * 8 + h.val) * 64 + e.val by ring))
/-- A device's rows of `Wo` are eight heads' rows of the whole of it. -/
theorem block_row (w : FVec Ideal ⟨2, ![16384, 768]⟩ .f32) (c : Dev nD) (h : Fin 8) (e : Fin 64) (n : Fin 768) :
    Layout.block ⟨2, ![512, 768]⟩ ⟨2, ![16384, 768]⟩ 0 32 c w (by decide) (ix2 (col h e) n) = w (ix2 (Ref.wide (headNo c h) e) n) :=
  congrArg w (funext fun a => match a with
    | ⟨0, _⟩ => Fin.ext (show c.val * 512 + (h.val * 64 + e.val) = (c.val * 8 + h.val) * 64 + e.val by ring)
    | ⟨1, _⟩ => rfl)

theorem proj_block (x : FVec Ideal S2x256x768 .f32) (w : FVec Ideal ⟨2, ![768, 16384]⟩ .f32) (c : Dev nD) (b : Fin 2) (i : Fin 256) (h : Fin 8) (e : Fin 64) :
    proj x (Layout.block ⟨2, ![768, 512]⟩ ⟨2, ![768, 16384]⟩ 1 32 c w (by decide)) b i (col h e) = Ref.qkv x w (ix4 b i (headNo c h) e) := by
  rw [Ref.qkv_apply]
  exact Finset.sum_congr rfl fun D _ => congrArg (x (ix3 b i D) * ·) (block_col w c D h e)

/-- What every device ends with is the reference's result. -/
theorem out_eq (x : FVec Ideal S2x256x768 .f32) (wq wk wv : FVec Ideal ⟨2, ![768, 16384]⟩ .f32) (wo : FVec Ideal ⟨2, ![16384, 768]⟩ .f32) :
    k0_pay1 (F := Ideal) (gathered fun c => part x (Layout.block ⟨2, ![768, 512]⟩ ⟨2, ![768, 16384]⟩ 1 32 c wq (by decide))
        (Layout.block ⟨2, ![512, 768]⟩ ⟨2, ![16384, 768]⟩ 0 32 c wo (by decide)) (Layout.block ⟨2, ![768, 512]⟩ ⟨2, ![768, 16384]⟩ 1 32 c wk (by decide))
        (Layout.block ⟨2, ![768, 512]⟩ ⟨2, ![768, 16384]⟩ 1 32 c wv (by decide)))
      = Ref.result x wq wk wv wo := by
  funext j
  obtain ⟨b, i, n, rfl⟩ : ∃ (b : Fin 2) (i : Fin 256) (n : Fin 768), j = ix3 b i n := ⟨j 0, j 1, j 2, by funext a; fin_cases a <;> rfl⟩
  rw [pay1_apply, gathered_apply, Ref.result_apply, sum_headNo]
  refine Finset.sum_congr rfl fun c _ => ?_
  rw [part_apply]
  refine Finset.sum_congr rfl fun h _ => Finset.sum_congr rfl fun d _ => ?_
  simp only [proj_block, block_row]

/-! ## The claim -/

theorem algebraic_holds : Cert.algebraic_KernelIdeal_ReferenceIdeal (hKernelIdeal := Cert.KernelIdeal.Gen.facts)
    (hReferenceIdeal := Cert.ReferenceIdeal.Gen.facts) := by
  intro m g m' g' _ hm
  refine ⟨Cert.ReferenceIdeal.Value.res_out0 m' 0, ?_, ?_⟩
  · have hout (c : Dev nD) : outAt m g c = Cert.ReferenceIdeal.Value.res_out0 m' 0 := by
      rw [Ref.res_eq, ← out_eq]
      refine congrArg (k0_pay1 (F := Ideal)) (congrArg gathered (funext fun d => ?_))
      unfold PS
      rw [xs_eq, wqs_eq, wos_eq, wks_eq, wvs_eq, (hm d).1, (hm d).2.1, (hm d).2.2.1, (hm d).2.2.2.1, (hm d).2.2.2.2]
    exact (θ_run defs _ _).mono (fun r h c => ⟨((h.1 c (5 : Fin 6)).trans (final_out m g c)).trans (hout c), args_kept m g h.1 c⟩) (run_main m g)
  · exact (θ_run Cert.ReferenceIdeal.defs _ _).mono (fun r h => h 0) (Cert.ReferenceIdeal.Value.run (F := Ideal) m' g')

end Cert.Halving

end
-- ==== Proof.lean ====
/-
The claim, assembled.
-/
module

public import proofs.«01_k».proof.Defs
public import proofs.«01_k».proof.Proof.Frames
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts,
    Cert.Halving.frame_words, Cert.Halving.frame_reals, Cert.Halving.frame_reference, trivial, Cert.Halving.algebraic_holds⟩

end Cert.Proof

end
